-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "tenth" .f32 0x3DCCCCCD#32 ((1 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x3 : Shape := ⟨2, ![4096, 3]⟩
abbrev S4096x64 : Shape := ⟨2, ![4096, 64]⟩
abbrev S32x32x32 : Shape := ⟨3, ![32, 32, 32]⟩
abbrev S30 : Shape := ⟨1, ![30]⟩
abbrev S180x64 : Shape := ⟨2, ![180, 64]⟩
abbrev S64 : Shape := ⟨1, ![64]⟩
abbrev S64x64 : Shape := ⟨2, ![64, 64]⟩
abbrev S244x64 : Shape := ⟨2, ![244, 64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S4096x1x3 : Shape := ⟨3, ![4096, 1, 3]⟩
abbrev S4096x64x1 : Shape := ⟨3, ![4096, 64, 1]⟩
abbrev S4096x64x3 : Shape := ⟨3, ![4096, 64, 3]⟩
abbrev S_ : Shape := ⟨0, ![]⟩
abbrev S4096 : Shape := ⟨1, ![4096]⟩
abbrev S4096x1 : Shape := ⟨2, ![4096, 1]⟩
abbrev S32768 : Shape := ⟨1, ![32768]⟩
abbrev S262144x3 : Shape := ⟨2, ![262144, 3]⟩
abbrev S3x262144 : Shape := ⟨2, ![3, 262144]⟩
abbrev S262144 : Shape := ⟨1, ![262144]⟩
abbrev S3x8192 : Shape := ⟨2, ![3, 8192]⟩
abbrev S8192 : Shape := ⟨1, ![8192]⟩
abbrev S16 : Shape := ⟨1, ![16]⟩
abbrev S1x16 : Shape := ⟨2, ![1, 16]⟩
abbrev S1x30 : Shape := ⟨2, ![1, 30]⟩
abbrev S3x30 : Shape := ⟨2, ![3, 30]⟩
abbrev S90 : Shape := ⟨1, ![90]⟩
abbrev S1x90 : Shape := ⟨2, ![1, 90]⟩
abbrev S90x64 : Shape := ⟨2, ![90, 64]⟩
abbrev S1x64 : Shape := ⟨2, ![1, 64]⟩
abbrev S1x3 : Shape := ⟨2, ![1, 3]⟩
abbrev S1x1 : Shape := ⟨2, ![1, 1]⟩
abbrev S64x64x3 : Shape := ⟨3, ![64, 64, 3]⟩
abbrev S64x64x90 : Shape := ⟨3, ![64, 64, 90]⟩
abbrev S64x64x1 : Shape := ⟨3, ![64, 64, 1]⟩
abbrev S1x1x90 : Shape := ⟨3, ![1, 1, 90]⟩
abbrev S4096x90 : Shape := ⟨2, ![4096, 90]⟩
abbrev S64x64x64 : Shape := ⟨3, ![64, 64, 64]⟩
abbrev S1x1x64 : Shape := ⟨3, ![1, 1, 64]⟩
abbrev S64x90 : Shape := ⟨2, ![64, 90]⟩
abbrev S64x1x64 : Shape := ⟨3, ![64, 1, 64]⟩

abbrev nBuf : Table → Nat
  | .hbm => 63
  | .local .tc .vmem => 28
  | .local .scVector .vmem => 3
  | _ => 0

abbrev bufTy : (tb : Table) → Fin (nBuf tb) → BufTy
  | .hbm, ⟨0, _⟩ => ⟨S4096x3, .f32⟩
  | .hbm, ⟨1, _⟩ => ⟨S4096x3, .f32⟩
  | .hbm, ⟨2, _⟩ => ⟨S4096x64, .f32⟩
  | .hbm, ⟨3, _⟩ => ⟨S32x32x32, .i1⟩
  | .hbm, ⟨4, _⟩ => ⟨S30, .f32⟩
  | .hbm, ⟨5, _⟩ => ⟨S180x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S244x64, .f32⟩
  | .hbm, ⟨10, _⟩ => ⟨S64, .f32⟩
  | .hbm, ⟨11, _⟩ => ⟨S64x3, .f32⟩
  | .hbm, ⟨12, _⟩ => ⟨S3, .f32⟩
  | .hbm, ⟨13, _⟩ => ⟨S64x1, .f32⟩
  | .hbm, ⟨14, _⟩ => ⟨S1, .f32⟩
  | .hbm, ⟨15, _⟩ => ⟨S4096x1x3, .f32⟩
  | .hbm, ⟨16, _⟩ => ⟨S4096x1x3, .f32⟩
  | .hbm, ⟨17, _⟩ => ⟨S4096x64x1, .f32⟩
  | .hbm, ⟨18, _⟩ => ⟨S4096x64x3, .f32⟩
  | .hbm, ⟨19, _⟩ => ⟨S4096x64x3, .f32⟩
  | .hbm, ⟨20, _⟩ => ⟨S4096x64x3, .f32⟩
  | .hbm, ⟨21, _⟩ => ⟨S4096x64x3, .f32⟩
  | .hbm, ⟨22, _⟩ => ⟨S4096x64x3, .f32⟩
  | .hbm, ⟨23, _⟩ => ⟨S4096x3, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x3, .f32⟩
  | .hbm, ⟨32, _⟩ => ⟨S4096x3, .f32⟩
  | .hbm, ⟨33, _⟩ => ⟨S32768, .i1⟩
  | .hbm, ⟨34, _⟩ => ⟨S32768, .f32⟩
  | .hbm, ⟨35, _⟩ => ⟨S262144x3, .f32⟩
  | .hbm, ⟨36, _⟩ => ⟨S3x262144, .f32⟩
  | .hbm, ⟨37, _⟩ => ⟨S262144, .f32⟩
  | .hbm, ⟨38, _⟩ => ⟨S4096x64, .f32⟩
  | .hbm, ⟨39, _⟩ => ⟨S1x30, .f32⟩
  | .hbm, ⟨40, _⟩ => ⟨S3x30, .f32⟩
  | .hbm, ⟨41, _⟩ => ⟨S90, .f32⟩
  | .hbm, ⟨42, _⟩ => ⟨S1x90, .f32⟩
  | .hbm, ⟨43, _⟩ => ⟨S4096x64x1, .f32⟩
  | .hbm, ⟨44, _⟩ => ⟨S4096x64, .f32⟩
  | .hbm, ⟨45, _⟩ => ⟨S4096x64x1, .f32⟩
  | .hbm, ⟨46, _⟩ => ⟨S4096x64, .f32⟩
  | .hbm, ⟨47, _⟩ => ⟨S4096x64x1, .f32⟩
  | .hbm, ⟨48, _⟩ => ⟨S4096x64, .f32⟩
  | .hbm, ⟨49, _⟩ => ⟨S90x64, .f32⟩
  | .hbm, ⟨50, _⟩ => ⟨S90x64, .f32⟩
  | .hbm, ⟨51, _⟩ => ⟨S1x64, .f32⟩
  | .hbm, ⟨52, _⟩ => ⟨S1x64, .f32⟩
  | .hbm, ⟨53, _⟩ => ⟨S64x64, .f32⟩
  | .hbm, ⟨54, _⟩ => ⟨S90x64, .f32⟩
  | .hbm, ⟨55, _⟩ => ⟨S90x64, .f32⟩
  | .hbm, ⟨56, _⟩ => ⟨S1x64, .f32⟩
  | .hbm, ⟨57, _⟩ => ⟨S1x3, .f32⟩
  | .hbm, ⟨58, _⟩ => ⟨S1x64, .f32⟩
  | .hbm, ⟨59, _⟩ => ⟨S1x1, .f32⟩
  | .hbm, ⟨60, _⟩ => ⟨S4096x64, .f32⟩
  | .hbm, ⟨61, _⟩ => ⟨S4096x64x3, .f32⟩
  | .hbm, ⟨62, _⟩ => ⟨S4096x64x1, .f32⟩
  | .local .tc .vmem, ⟨0, _⟩ => ⟨S64x64, .f32⟩
  | .local .tc .vmem, ⟨1, _⟩ => ⟨S64x64, .f32⟩
  | .local .tc .vmem, ⟨2, _⟩ => ⟨S64x64, .f32⟩
  | .local .tc .vmem, ⟨3, _⟩ => ⟨S64x64, .f32⟩
  | .local .tc .vmem, ⟨4, _⟩ => ⟨S64x64, .f32⟩
  | .local .tc .vmem, ⟨5, _⟩ => ⟨S64x64, .f32⟩
  | .local .tc .vmem, ⟨6, _⟩ => ⟨S64x3, .f32⟩
  | .local .tc .vmem, ⟨7, _⟩ => ⟨S64x3, .f32⟩
  | .local .tc .vmem, ⟨8, _⟩ => ⟨S64x64, .f32⟩
  | .local .tc .vmem, ⟨9, _⟩ => ⟨S64x64, .f32⟩
  | .local .tc .vmem, ⟨10, _⟩ => ⟨S1x90, .f32⟩
  | .local .tc .vmem, ⟨11, _⟩ => ⟨S90x64, .f32⟩
  | .local .tc .vmem, ⟨12, _⟩ => ⟨S90x64, .f32⟩
  | .local .tc .vmem, ⟨13, _⟩ => ⟨S1x64, .f32⟩
  | .local .tc .vmem, ⟨14, _⟩ => ⟨S64x64, .f32⟩
  | .local .tc .vmem, ⟨15, _⟩ => ⟨S1x64, .f32⟩
  | .local .tc .vmem, ⟨16, _⟩ => ⟨S64x64, .f32⟩
  | .local .tc .vmem, ⟨17, _⟩ => ⟨S90x64, .f32⟩
  | .local .tc .vmem, ⟨18, _⟩ => ⟨S90x64, .f32⟩
  | .local .tc .vmem, ⟨19, _⟩ => ⟨S1x64, .f32⟩
  | .local .tc .vmem, ⟨20, _⟩ => ⟨S64x3, .f32⟩
  | .local .tc .vmem, ⟨21, _⟩ => ⟨S1x3, .f32⟩
  | .local .tc .vmem, ⟨22, _⟩ => ⟨S1x64, .f32⟩
  | .local .tc .vmem, ⟨23, _⟩ => ⟨S1x1, .f32⟩
  | .local .tc .vmem, ⟨24, _⟩ => ⟨S64x64, .f32⟩
  | .local .tc .vmem, ⟨25, _⟩ => ⟨S64x64, .f32⟩
  | .local .tc .vmem, ⟨26, _⟩ => ⟨S64x64x3, .f32⟩
  | .local .tc .vmem, ⟨27, _⟩ => ⟨S64x64x3, .f32⟩
  | .local .scVector .vmem, ⟨0, _⟩ => ⟨S3x8192, .f32⟩
  | .local .scVector .vmem, ⟨1, _⟩ => ⟨S32768, .f32⟩
  | .local .scVector .vmem, ⟨2, _⟩ => ⟨S8192, .f32⟩
  | _, _ => ⟨S4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v41 : Ref sig .tc := ⟨.hbm, 62, rfl⟩
abbrev main_v16_scv : Ref sig .scVector := ⟨.hbm, 36, rfl⟩
abbrev main_v14_scv : Ref sig .scVector := ⟨.hbm, 34, rfl⟩
abbrev main_v17_scv : Ref sig .scVector := ⟨.hbm, 37, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg13_0 : Ref sig .tc := ⟨.vmem, 18, rfl⟩
abbrev cc1_stg14_0 : Ref sig .tc := ⟨.vmem, 19, rfl⟩
abbrev cc1_stg15_0 : Ref sig .tc := ⟨.vmem, 20, rfl⟩
abbrev cc1_stg16_0 : Ref sig .tc := ⟨.vmem, 21, rfl⟩
abbrev cc1_stg17_0 : Ref sig .tc := ⟨.vmem, 22, rfl⟩
abbrev cc1_stg18_0 : Ref sig .tc := ⟨.vmem, 23, rfl⟩
abbrev cc1_stg19_0 : Ref sig .tc := ⟨.vmem, 24, rfl⟩
abbrev cc1_stg19_1 : Ref sig .tc := ⟨.vmem, 25, rfl⟩
abbrev cc1_stg20_0 : Ref sig .tc := ⟨.vmem, 26, rfl⟩
abbrev cc1_stg20_1 : Ref sig .tc := ⟨.vmem, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem17_0 : DmaSem sig := 25
abbrev cc1_sem18_0 : DmaSem sig := 26
abbrev cc1_sem19_0 : DmaSem sig := 27
abbrev cc1_sem19_1 : DmaSem sig := 28
abbrev cc1_sem20_0 : DmaSem sig := 29
abbrev cc1_sem20_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![0, v2.toNat]
@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off2 (k0_t1 : Fin k0_t1_loop.trips) : Fin 2 → Nat :=
  let c0_i32_2 : BitVec 32 := 0#32
  let v5 : Index := Scalar.indexCast c0_i32_2
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v6 : Index := Scalar.indexCast v4
  ![0, v6.toNat]
def k0_off3 (k0_t1 : Fin k0_t1_loop.trips) : Fin 2 → Nat :=
  let c1_i32_6 : BitVec 32 := 1#32
  let v20 : Index := Scalar.indexCast c1_i32_6
  let c0_i32_0 : BitVec 32 := 0#32
  let c1_i32 : BitVec 32 := 1#32
  let arg8 : BitVec 32 := Scf.iv c0_i32_0 c1_i32 k0_t1
  let c16_i32_5 : BitVec 32 := 16#32
  let v19 : BitVec 32 := Scalar.muli arg8 c16_i32_5
  let v21 : Index := Scalar.indexCast v19
  ![1, v21.toNat]
def k0_off4 (k0_t1 : Fin k0_t1_loop.trips) : Fin 2 → Nat :=
  let c2_i32_12 : BitVec 32 := 2#32
  let v36 : Index := Scalar.indexCast c2_i32_12
  let c0_i32_0 : BitVec 32 := 0#32
  let c1_i32 : BitVec 32 := 1#32
  let arg8 : BitVec 32 := Scf.iv c0_i32_0 c1_i32 k0_t1
  let c16_i32_11 : BitVec 32 := 16#32
  let v35 : BitVec 32 := Scalar.muli arg8 c16_i32_11
  let v37 : Index := Scalar.indexCast v35
  ![2, v37.toNat]

def k0_chk1 (v50 : IVec S16 32) : Prop :=
  (∀ a x, ((![v50] : Fin 1 → IVec S16 32) a x).toNat < S32768.size a)
theorem k0_idx1_inb : ∀ (v50 : IVec S16 32) (k0_hw1 : k0_chk1 v50), ∀ a x, ((![v50] : Fin 1 → IVec S16 32) a x).toNat < S32768.size a := fun v50 k0_hw1 => k0_hw1
def k0_off5 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32_18 : BitVec 32 := 16#32
  let v52 : BitVec 32 := Scalar.muli arg8 c16_i32_18
  let v53 : Index := Scalar.indexCast v52
  ![v53.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x90 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S90x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S90x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S90x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S90x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64x3 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x3 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x64 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S64x64 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S64x64x3 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | "neg_log2e" => some ((-((Real.log 2)⁻¹) : ℝ) : EReal)
  | "tenth" => some ((1 / 10 : ℝ) : EReal)
  | _ => none
-- ==== ReferenceIdeal.lean ====
abbrev S4096x3 : Shape := ⟨2, ![4096, 3]⟩
abbrev S4096x64 : Shape := ⟨2, ![4096, 64]⟩
abbrev S32x32x32 : Shape := ⟨3, ![32, 32, 32]⟩
abbrev S30 : Shape := ⟨1, ![30]⟩
abbrev S180x64 : Shape := ⟨2, ![180, 64]⟩
abbrev S64 : Shape := ⟨1, ![64]⟩
abbrev S64x64 : Shape := ⟨2, ![64, 64]⟩
abbrev S244x64 : Shape := ⟨2, ![244, 64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S4096x1x3 : Shape := ⟨3, ![4096, 1, 3]⟩
abbrev S4096x64x1 : Shape := ⟨3, ![4096, 64, 1]⟩
abbrev S4096x64x3 : Shape := ⟨3, ![4096, 64, 3]⟩
abbrev S_ : Shape := ⟨0, ![]⟩
abbrev S4096x64x3x1 : Shape := ⟨4, ![4096, 64, 3, 1]⟩
abbrev S1x1x1x30 : Shape := ⟨4, ![1, 1, 1, 30]⟩
abbrev S4096x64x3x30 : Shape := ⟨4, ![4096, 64, 3, 30]⟩
abbrev S4096x64x90 : Shape := ⟨3, ![4096, 64, 90]⟩
abbrev S4096x64x180 : Shape := ⟨3, ![4096, 64, 180]⟩
abbrev S4096x64x64 : Shape := ⟨3, ![4096, 64, 64]⟩
abbrev S1x1x64 : Shape := ⟨3, ![1, 1, 64]⟩
abbrev S1x1x1 : Shape := ⟨3, ![1, 1, 1]⟩
abbrev S4096 : Shape := ⟨1, ![4096]⟩
abbrev S4096x1 : Shape := ⟨2, ![4096, 1]⟩
abbrev S4096x3x1 : Shape := ⟨3, ![4096, 3, 1]⟩
abbrev S1x1x30 : Shape := ⟨3, ![1, 1, 30]⟩
abbrev S4096x3x30 : Shape := ⟨3, ![4096, 3, 30]⟩
abbrev S4096x90 : Shape := ⟨2, ![4096, 90]⟩
abbrev S4096x180 : Shape := ⟨2, ![4096, 180]⟩
abbrev S4096x1x180 : Shape := ⟨3, ![4096, 1, 180]⟩
abbrev S4096x64x244 : Shape := ⟨3, ![4096, 64, 244]⟩
abbrev S1x1x3 : Shape := ⟨3, ![1, 1, 3]⟩

abbrev nBuf : Space → Nat
  | .hbm => 225
  | .vmem => 0
  | .smem => 0
  | _ => 0

abbrev hbmTy0_0 (i : Nat) : BufTy := match i % 128 with
  | 0 => ⟨S4096x3, .f32⟩
  | 1 => ⟨S4096x3, .f32⟩
  | 2 => ⟨S4096x64, .f32⟩
  | 3 => ⟨S32x32x32, .i1⟩
  | 4 => ⟨S30, .f32⟩
  | 5 => ⟨S180x64, .f32⟩
  | 6 => ⟨S64, .f32⟩
  | 7 => ⟨S64x64, .f32⟩
  | 8 => ⟨S64, .f32⟩
  | 9 => ⟨S244x64, .f32⟩
  | 10 => ⟨S64, .f32⟩
  | 11 => ⟨S64x3, .f32⟩
  | 12 => ⟨S3, .f32⟩
  | 13 => ⟨S64x1, .f32⟩
  | 14 => ⟨S1, .f32⟩
  | 15 => ⟨S4096x1x3, .f32⟩
  | 16 => ⟨S4096x1x3, .f32⟩
  | 17 => ⟨S4096x64x1, .f32⟩
  | 18 => ⟨S4096x64x3, .f32⟩
  | 19 => ⟨S4096x64x3, .f32⟩
  | 20 => ⟨S4096x64x3, .f32⟩
  | 21 => ⟨S4096x64x3, .f32⟩
  | 22 => ⟨S4096x64x3, .f32⟩
  | 23 => ⟨S_, .f32⟩
  | 24 => ⟨S4096x64x3, .f32⟩
  | 25 => ⟨S4096x64x3, .f32⟩
  | 26 => ⟨S_, .f32⟩
  | 27 => ⟨S4096x64x3, .f32⟩
  | 28 => ⟨S4096x64x3, .f32⟩
  | 29 => ⟨S4096x64x3, .i32⟩
  | 30 => ⟨S_, .i32⟩
  | 31 => ⟨S_, .i32⟩
  | 32 => ⟨S_, .i32⟩
  | 33 => ⟨S4096x64x3, .i32⟩
  | 34 => ⟨S4096x64x3, .i32⟩
  | 35 => ⟨S_, .i32⟩
  | 36 => ⟨S4096x64x3, .i32⟩
  | 37 => ⟨S4096x64x3, .i32⟩
  | 38 => ⟨S4096x64x1, .i32⟩
  | 39 => ⟨S4096x64, .i32⟩
  | 40 => ⟨S4096x64x1, .i32⟩
  | 41 => ⟨S4096x64, .i32⟩
  | 42 => ⟨S4096x64x1, .i32⟩
  | 43 => ⟨S4096x64, .i32⟩
  | 44 => ⟨S_, .i32⟩
  | 45 => ⟨S4096x64, .i32⟩
  | 46 => ⟨S4096x64, .i1⟩
  | 47 => ⟨S_, .i32⟩
  | 48 => ⟨S4096x64, .i32⟩
  | 49 => ⟨S4096x64, .i32⟩
  | 50 => ⟨S4096x64, .i32⟩
  | 51 => ⟨S_, .i32⟩
  | 52 => ⟨S4096x64, .i32⟩
  | 53 => ⟨S4096x64, .i1⟩
  | 54 => ⟨S_, .i32⟩
  | 55 => ⟨S4096x64, .i32⟩
  | 56 => ⟨S4096x64, .i32⟩
  | 57 => ⟨S4096x64, .i32⟩
  | 58 => ⟨S_, .i32⟩
  | 59 => ⟨S4096x64, .i32⟩
  | 60 => ⟨S4096x64, .i1⟩
  | 61 => ⟨S_, .i32⟩
  | 62 => ⟨S4096x64, .i32⟩
  | 63 => ⟨S4096x64, .i32⟩
  | 64 => ⟨S4096x64, .i32⟩
  | 65 => ⟨S4096x64x1, .i32⟩
  | 66 => ⟨S4096x64x1, .i32⟩
  | 67 => ⟨S4096x64x1, .i32⟩
  | 68 => ⟨S4096x64x3, .i32⟩
  | 69 => ⟨S4096x64, .i1⟩
  | 70 => ⟨S4096x64x3x1, .f32⟩
  | 71 => ⟨S1x1x1x30, .f32⟩
  | 72 => ⟨S4096x64x3x30, .f32⟩
  | 73 => ⟨S4096x64x3x30, .f32⟩
  | 74 => ⟨S4096x64x3x30, .f32⟩
  | 75 => ⟨S4096x64x90, .f32⟩
  | 76 => ⟨S4096x64x90, .f32⟩
  | 77 => ⟨S4096x64x90, .f32⟩
  | 78 => ⟨S4096x64x180, .f32⟩
  | 79 => ⟨S4096x64x64, .f32⟩
  | 80 => ⟨S1x1x64, .f32⟩
  | 81 => ⟨S4096x64x64, .f32⟩
  | 82 => ⟨S4096x64x64, .f32⟩
  | 83 => ⟨S_, .f32⟩
  | 84 => ⟨S4096x64x64, .f32⟩
  | 85 => ⟨S4096x64x64, .f32⟩
  | 86 => ⟨S_, .f32⟩
  | 87 => ⟨S4096x64x64, .f32⟩
  | 88 => ⟨S4096x64x64, .f32⟩
  | 89 => ⟨S4096x64x64, .f32⟩
  | 90 => ⟨S4096x64x64, .f32⟩
  | 91 => ⟨S4096x64x64, .i1⟩
  | 92 => ⟨S4096x64x64, .f32⟩
  | 93 => ⟨S4096x64x64, .f32⟩
  | 94 => ⟨S4096x64x64, .f32⟩
  | 95 => ⟨S4096x64x64, .f32⟩
  | 96 => ⟨S4096x64x64, .f32⟩
  | 97 => ⟨S4096x64x64, .f32⟩
  | 98 => ⟨S4096x64x64, .f32⟩
  | 99 => ⟨S4096x64x64, .f32⟩
  | 100 => ⟨S_, .f32⟩
  | 101 => ⟨S4096x64x64, .f32⟩
  | 102 => ⟨S4096x64x64, .f32⟩
  | 103 => ⟨S4096x64x64, .f32⟩
  | 104 => ⟨S1x1x64, .f32⟩
  | 105 => ⟨S4096x64x64, .f32⟩
  | 106 => ⟨S4096x64x64, .f32⟩
  | 107 => ⟨S_, .f32⟩
  | 108 => ⟨S4096x64x64, .f32⟩
  | 109 => ⟨S4096x64x64, .f32⟩
  | 110 => ⟨S_, .f32⟩
  | 111 => ⟨S4096x64x64, .f32⟩
  | 112 => ⟨S4096x64x64, .f32⟩
  | 113 => ⟨S4096x64x64, .f32⟩
  | 114 => ⟨S4096x64x64, .f32⟩
  | 115 => ⟨S4096x64x64, .i1⟩
  | 116 => ⟨S4096x64x64, .f32⟩
  | 117 => ⟨S4096x64x64, .f32⟩
  | 118 => ⟨S4096x64x64, .f32⟩
  | 119 => ⟨S4096x64x64, .f32⟩
  | 120 => ⟨S4096x64x64, .f32⟩
  | 121 => ⟨S4096x64x64, .f32⟩
  | 122 => ⟨S4096x64x64, .f32⟩
  | 123 => ⟨S4096x64x64, .f32⟩
  | 124 => ⟨S_, .f32⟩
  | 125 => ⟨S4096x64x64, .f32⟩
  | 126 => ⟨S4096x64x64, .f32⟩
  | 127 => ⟨S4096x64x1, .f32⟩
  | _ => ⟨S4096x3, .f32⟩

abbrev hbmTy0_1 (i : Nat) : BufTy := match i % 128 with
  | 0 => ⟨S1x1x1, .f32⟩
  | 1 => ⟨S4096x64x1, .f32⟩
  | 2 => ⟨S4096x64x1, .f32⟩
  | 3 => ⟨S_, .f32⟩
  | 4 => ⟨S4096x64x1, .f32⟩
  | 5 => ⟨S4096x64x1, .f32⟩
  | 6 => ⟨S_, .f32⟩
  | 7 => ⟨S4096x64x1, .f32⟩
  | 8 => ⟨S4096x64x1, .f32⟩
  | 9 => ⟨S4096x64x1, .f32⟩
  | 10 => ⟨S4096x64x1, .f32⟩
  | 11 => ⟨S4096x64x1, .i1⟩
  | 12 => ⟨S4096x64x1, .f32⟩
  | 13 => ⟨S4096x64x1, .f32⟩
  | 14 => ⟨S4096x64x1, .f32⟩
  | 15 => ⟨S4096x64x1, .f32⟩
  | 16 => ⟨S4096x64x1, .f32⟩
  | 17 => ⟨S4096x64x1, .f32⟩
  | 18 => ⟨S4096x64x1, .f32⟩
  | 19 => ⟨S4096x64x1, .f32⟩
  | 20 => ⟨S_, .f32⟩
  | 21 => ⟨S4096x64x1, .f32⟩
  | 22 => ⟨S4096x64x1, .f32⟩
  | 23 => ⟨S4096x64x1, .f32⟩
  | 24 => ⟨S4096x64x1, .f32⟩
  | 25 => ⟨S_, .f32⟩
  | 26 => ⟨S4096x64x1, .f32⟩
  | 27 => ⟨S4096x64x1, .f32⟩
  | 28 => ⟨S4096x3, .f32⟩
  | 29 => ⟨S_, .f32⟩
  | 30 => ⟨S4096, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x3, .f32⟩
  | 37 => ⟨S4096x3, .f32⟩
  | 38 => ⟨S4096x3x1, .f32⟩
  | 39 => ⟨S1x1x30, .f32⟩
  | 40 => ⟨S4096x3x30, .f32⟩
  | 41 => ⟨S4096x3x30, .f32⟩
  | 42 => ⟨S4096x3x30, .f32⟩
  | 43 => ⟨S4096x90, .f32⟩
  | 44 => ⟨S4096x90, .f32⟩
  | 45 => ⟨S4096x90, .f32⟩
  | 46 => ⟨S4096x180, .f32⟩
  | 47 => ⟨S4096x1x180, .f32⟩
  | 48 => ⟨S4096x64x180, .f32⟩
  | 49 => ⟨S4096x64x244, .f32⟩
  | 50 => ⟨S4096x64x64, .f32⟩
  | 51 => ⟨S1x1x64, .f32⟩
  | 52 => ⟨S4096x64x64, .f32⟩
  | 53 => ⟨S4096x64x64, .f32⟩
  | 54 => ⟨S_, .f32⟩
  | 55 => ⟨S4096x64x64, .f32⟩
  | 56 => ⟨S4096x64x64, .f32⟩
  | 57 => ⟨S_, .f32⟩
  | 58 => ⟨S4096x64x64, .f32⟩
  | 59 => ⟨S4096x64x64, .f32⟩
  | 60 => ⟨S4096x64x64, .f32⟩
  | 61 => ⟨S4096x64x64, .f32⟩
  | 62 => ⟨S4096x64x64, .i1⟩
  | 63 => ⟨S4096x64x64, .f32⟩
  | 64 => ⟨S4096x64x64, .f32⟩
  | 65 => ⟨S4096x64x64, .f32⟩
  | 66 => ⟨S4096x64x64, .f32⟩
  | 67 => ⟨S4096x64x64, .f32⟩
  | 68 => ⟨S4096x64x64, .f32⟩
  | 69 => ⟨S4096x64x64, .f32⟩
  | 70 => ⟨S4096x64x64, .f32⟩
  | 71 => ⟨S_, .f32⟩
  | 72 => ⟨S4096x64x64, .f32⟩
  | 73 => ⟨S4096x64x64, .f32⟩
  | 74 => ⟨S4096x64x3, .f32⟩
  | 75 => ⟨S1x1x3, .f32⟩
  | 76 => ⟨S4096x64x3, .f32⟩
  | 77 => ⟨S4096x64x3, .f32⟩
  | 78 => ⟨S4096x64x3, .f32⟩
  | 79 => ⟨S4096x64x3, .f32⟩
  | 80 => ⟨S_, .f32⟩
  | 81 => ⟨S4096x64x3, .f32⟩
  | 82 => ⟨S4096x64x3, .f32⟩
  | 83 => ⟨S_, .f32⟩
  | 84 => ⟨S4096x64x3, .f32⟩
  | 85 => ⟨S4096x64x3, .f32⟩
  | 86 => ⟨S4096x64x1, .i1⟩
  | 87 => ⟨S_, .f32⟩
  | 88 => ⟨S_, .f32⟩
  | 89 => ⟨S4096x64x1, .f32⟩
  | 90 => ⟨S4096x64x1, .f32⟩
  | 91 => ⟨S4096x64x1, .i1⟩
  | 92 => ⟨S_, .f32⟩
  | 93 => ⟨S_, .f32⟩
  | 94 => ⟨S4096x64x3, .i1⟩
  | 95 => ⟨S4096x64x3, .f32⟩
  | 96 => ⟨S4096x64x3, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v55 : Ref sig .tc := ⟨.hbm, 99, rfl⟩
abbrev main_cst_9 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_10 : Ref sig .tc := ⟨.hbm, 107, rfl⟩
abbrev main_v62 : Ref sig .tc := ⟨.hbm, 108, rfl⟩
abbrev main_v63 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_v64 : Ref sig .tc := ⟨.hbm, 123, rfl⟩
abbrev main_cst_11 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_cst_12 : Ref sig .tc := ⟨.hbm, 131, rfl⟩
abbrev main_v71 : Ref sig .tc := ⟨.hbm, 132, rfl⟩
abbrev main_v72 : Ref sig .tc := ⟨.hbm, 133, rfl⟩
abbrev main_call3_cst : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_v73 : Ref sig .tc := ⟨.hbm, 147, rfl⟩
abbrev main_cst_13 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_cst_14 : Ref sig .tc := ⟨.hbm, 153, rfl⟩
abbrev main_v78 : Ref sig .tc := ⟨.hbm, 154, rfl⟩
abbrev main_v79 : Ref sig .tc := ⟨.hbm, 155, rfl⟩
abbrev main_call4_v0 : Ref sig .tc := ⟨.hbm, 156, rfl⟩
abbrev main_call4_cst : Ref sig .tc := ⟨.hbm, 157, rfl⟩
abbrev main_call4_v1 : Ref sig .tc := ⟨.hbm, 158, rfl⟩
abbrev main_call4_v2 : Ref sig .tc := ⟨.hbm, 159, rfl⟩
abbrev main_v80 : Ref sig .tc := ⟨.hbm, 160, rfl⟩
abbrev main_cst_15 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_cst_16 : Ref sig .tc := ⟨.hbm, 182, rfl⟩
abbrev main_v101 : Ref sig .tc := ⟨.hbm, 183, rfl⟩
abbrev main_v102 : Ref sig .tc := ⟨.hbm, 184, rfl⟩
abbrev main_call5_cst : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_v6 : Ref sig .tc := ⟨.hbm, 192, rfl⟩
abbrev main_call5_v7 : Ref sig .tc := ⟨.hbm, 193, rfl⟩
abbrev main_call5_v8 : Ref sig .tc := ⟨.hbm, 194, rfl⟩
abbrev main_call5_v9 : Ref sig .tc := ⟨.hbm, 195, rfl⟩
abbrev main_call5_v10 : Ref sig .tc := ⟨.hbm, 196, rfl⟩
abbrev main_call5_v11 : Ref sig .tc := ⟨.hbm, 197, rfl⟩
abbrev main_v103 : Ref sig .tc := ⟨.hbm, 198, rfl⟩
abbrev main_cst_17 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_cst_18 : Ref sig .tc := ⟨.hbm, 208, rfl⟩
abbrev main_v112 : Ref sig .tc := ⟨.hbm, 209, rfl⟩
abbrev main_v113 : Ref sig .tc := ⟨.hbm, 210, rfl⟩
abbrev main_cst_19 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_cst_20 : Ref sig .tc := ⟨.hbm, 215, rfl⟩
abbrev main_call6_v0 : Ref sig .tc := ⟨.hbm, 216, rfl⟩
abbrev main_call6_v1 : Ref sig .tc := ⟨.hbm, 217, rfl⟩
abbrev main_v117 : Ref sig .tc := ⟨.hbm, 218, rfl⟩
abbrev main_v118 : Ref sig .tc := ⟨.hbm, 219, rfl⟩
abbrev main_cst_21 : Ref sig .tc := ⟨.hbm, 220, rfl⟩
abbrev main_call7_v0 : Ref sig .tc := ⟨.hbm, 221, rfl⟩
abbrev main_call7_v1 : Ref sig .tc := ⟨.hbm, 222, rfl⟩
abbrev main_call7_v2 : Ref sig .tc := ⟨.hbm, 223, rfl⟩
abbrev main_v119 : Ref sig .tc := ⟨.hbm, 224, rfl⟩

abbrev nD : Nat := 1
abbrev τ : Topo := Topo.v7x

variable {F : FTy → Type} [FloatOps F]
-- ==== Proof.Setup.lean ====
/-
  The set-up shared by the proof's modules: the kernel's program as the launch theorem sees it, and the resource
  algebra of its proof. The program has one SparseCore call, on every vector subcore, and one TensorCore pipeline;
  the algebra holds the launch handshakes' rounds, the pipeline's rounds and the local transfers' counters.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake semaphores are distinct and scoped as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UC : Type := UP × Counters
abbrev UU : Type := UH × UC

/-- The handshakes' rounds, the left factor. -/
abbrev EH : Emb UH (MT nD τ sig (HIx 1) (Elt F) ℕ UU ℕ) := embL
/-- The pipeline's rounds, the middle factor. -/
abbrev EP : Emb UP (MT nD τ sig (HIx 1) (Elt F) ℕ UU ℕ) :=
  (Emb.inl : Emb UP UC).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.K

end

end
-- ==== Proof.Lane.lean ====
/-
  The SparseCore kernel's arithmetic, one lane at a time: the linear index a point's three coordinates name in the
  flattened occupancy grid, the fact that it is always inside the grid, and the mask the kernel writes.
-/
module

public import proofs.«01_k».proof.Proof.Setup
public import Idealize.ShloMosaic.Lib.Pipeline.Value

@[expose] public section

set_option maxRecDepth 16384

noncomputable section

namespace Cert.Proof.K

open Cert.KernelIdeal Cert.KernelIdeal.Gen
open Idealize.ShloMosaic

variable {F : FTy → Type} [FloatOps F] [Named F]

/-- One axis's grid cell: the coordinate shifted and divided by the voxel size, truncated and clipped to `[0, 31]`. -/
def axisIx (a : F .f32) : BitVec 32 :=
  IntOp.minsi (IntOp.maxsi (FloatOps.fptosi 32 (FloatOps.divf (FloatOps.addf a (Scalar.ofBits .f32 0x40400000#32)) (Scalar.ofBits .f32 0x3E400000#32))) 0#32) 31#32

/-- The linear index of the cell `(a, b, c)` lies in. -/
def linIx (a b c : F .f32) : BitVec 32 :=
  IntOp.addi (IntOp.addi (IntOp.muli (axisIx a) 1024#32) (IntOp.muli (axisIx b) 32#32)) (IntOp.muli (axisIx c) 1#32)

/-- Clipping to `[0, 31]` leaves a word below 32. -/
theorem clip_lt (w : BitVec 32) : (IntOp.minsi (IntOp.maxsi w 0#32) 31#32).toNat < 32 := by
  simp only [IntOp.minsi, IntOp.maxsi, BitVec.slt, BitVec.sle]
  have h := w.isLt
  split <;> split <;> simp_all [BitVec.toInt] <;> split at * <;> omega

/-- The linear index in numbers: no addition or multiplication wraps. -/
theorem linIx_toNat (a b c : F .f32) :
    (linIx a b c).toNat = (axisIx a).toNat * 1024 + (axisIx b).toNat * 32 + (axisIx c).toNat := by
  have ha := clip_lt (FloatOps.fptosi 32 (FloatOps.divf (FloatOps.addf a (Scalar.ofBits .f32 0x40400000#32)) (Scalar.ofBits .f32 0x3E400000#32)))
  have hb := clip_lt (FloatOps.fptosi 32 (FloatOps.divf (FloatOps.addf b (Scalar.ofBits .f32 0x40400000#32)) (Scalar.ofBits .f32 0x3E400000#32)))
  have hc := clip_lt (FloatOps.fptosi 32 (FloatOps.divf (FloatOps.addf c (Scalar.ofBits .f32 0x40400000#32)) (Scalar.ofBits .f32 0x3E400000#32)))
  change (axisIx a).toNat < 32 at ha
  change (axisIx b).toNat < 32 at hb
  change (axisIx c).toNat < 32 at hc
  simp only [linIx, IntOp.addi, IntOp.muli, BitVec.toNat_add, BitVec.toNat_mul, BitVec.toNat_ofNat]
  omega

/-- An axis's cell is below 32. -/
theorem axisIx_lt (a : F .f32) : (axisIx a).toNat < 32 := clip_lt _

/-- The linear index is inside the flattened grid. -/
theorem linIx_lt (a b c : F .f32) : (linIx a b c).toNat < 32768 := by
  have ha := axisIx_lt a; have hb := axisIx_lt b; have hc := axisIx_lt c
  rw [linIx_toNat]; omega

/-- Entry `(r, y)` of the transposed points. -/
def at3 (r : Fin 3) (y : Fin 262144) : S3x262144.Idx := fun a => match a with | ⟨0, _⟩ => r | ⟨1, _⟩ => y

/-- The grid's entry at the cell of `(a, b, c)`. -/
def cellOf (cg : S32768.Idx → F .f32) (a b c : F .f32) : F .f32 := cg (fun x => ⟨(linIx a b c).toNat, by
  obtain rfl : x = 0 := Subsingleton.elim _ _
  exact linIx_lt a b c⟩)

/-- The mask the SparseCore kernel computes: each point's grid entry. -/
def maskAt (cp : S3x262144.Idx → F .f32) (cg : S32768.Idx → F .f32) (y : S262144.Idx) : F .f32 :=
  cellOf cg (cp (at3 0 (y 0))) (cp (at3 1 (y 0))) (cp (at3 2 (y 0)))

/-- Entry `(0, x)` of a `[1, 16]` register. -/
def at1 (x : S16.Idx) : S1x16.Idx := fun a => match a with | ⟨0, _⟩ => ⟨0, Nat.one_pos⟩ | ⟨1, _⟩ => x 0

/-- A `[1, 16]` register read as `[16]`. -/
theorem cast16 (v : Vec F S1x16 .f32) (x : S16.Idx) : shapeCast S16 v shapeCasts_S1x16_S16 x = v (at1 x) := by
  refine shapeCast_apply _ _ x (at1 x) ?_
  rw [Shape.rowMajor_val_two, Shape.rowMajor_val_one]
  show 0 * 16 + (x 0).val = (x 0).val
  omega

/-- The index vector the kernel gathers at, lane by lane. -/
theorem pay_lin (v7 v22 v38 : Vec F S1x16 .f32) (x : S16.Idx) :
    k0_pay1 (k0_pay2 v7 v22) (k0_pay3 v38) (k0_pay4 (F := F)) x = linIx (v7 (at1 x)) (v22 (at1 x)) (v38 (at1 x)) := by
  have e7 := cast16 v7 x
  have e22 := cast16 v22 x
  have e38 := cast16 v38 x
  unfold linIx axisIx
  rw [← e7, ← e22, ← e38]
  rfl

/-- The kernel's own check of its indices always passes. -/
theorem chk_pay (v7 v22 v38 : Vec F S1x16 .f32) : k0_chk1 (k0_pay1 (k0_pay2 v7 v22) (k0_pay3 v38) (k0_pay4 (F := F))) := by
  intro a x
  obtain rfl : a = 0 := Subsingleton.elim _ _
  show (k0_pay1 (k0_pay2 v7 v22) (k0_pay3 v38) (k0_pay4 (F := F)) x).toNat < 32768
  rw [pay_lin]
  exact linIx_lt _ _ _

end Cert.Proof.K

end

end
-- ==== Proof.Tile.lean ====
/-
  The SparseCore kernel's body on one vector subcore, with what it leaves: its 8192 entries of the mask. The subcore
  reads its share of the transposed points and of the whole grid, copies both into its own memory, gathers 16 lanes a
  trip for 512 trips, and copies the 8192 results out. Run once, at a symbolic (SparseCore, subcore) pair.
-/
module

public import proofs.«01_k».proof.Proof.Lane

@[expose] public section

set_option maxRecDepth 16384

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## Places -/

/-- The transposed points, the flattened grid and the mask, where the TensorCore addresses them. -/
abbrev pLoc (d : Dev nD) : Loc nD τ sig := (T d : Thread nD τ).loc main_v16
abbrev gLoc (d : Dev nD) : Loc nD τ sig := (T d : Thread nD τ).loc main_v14
abbrev oLoc (d : Dev nD) : Loc nD τ sig := (T d : Thread nD τ).loc main_v17

abbrev pV : Memref sig .scVector .hbm S3x262144 .f32 := Memref.whole main_v16_scv
abbrev gV : Memref sig .scVector .hbm S32768 .f32 := Memref.whole main_v14_scv
abbrev oV : Memref sig .scVector .hbm S262144 .f32 := Memref.whole main_v17_scv
abbrev sP : Memref sig .scVector .vmem S3x8192 .f32 := Memref.whole cc0_scratch0
abbrev sG : Memref sig .scVector .vmem S32768 .f32 := Memref.whole cc0_scratch1
abbrev sO : Memref sig .scVector .vmem S8192 .f32 := Memref.whole cc0_scratch2

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The subcore's block of the transposed points and of the mask, as the body slices them. -/
abbrev pSl (L : grid0.Coords) : Memref sig .scVector .hbm S3x8192 .f32 :=
  pV.slice (Rect.unit (s := S3x262144) (k0_off1 L) S3x8192.size (k0_off1_inb L)) (fun _ => rfl)
abbrev oSl (L : grid0.Coords) : Memref sig .scVector .hbm S8192 .f32 :=
  oV.slice (Rect.unit (s := S262144) (k0_off6 L) S8192.size (k0_off6_inb L)) (fun _ => rfl)

/-- The subcore's number, and its read share of an array every subcore reads. -/
abbrev tid (L : grid0.Coords) : ℕ := 2 * (L 1).val + (L 0).val
abbrev tokOf (L : grid0.Coords) : PosShare TreeShare := Transfers.shareTokN fullShare (tid L)

abbrev c0cell (d : Dev nD) (c : Fin τ.nSC) (j : Fin τ.nSub) : GSem nD τ sig := (V d c j, SemLoc.dma cc0_scoped0.sem)
abbrev c1cell (d : Dev nD) (c : Fin τ.nSC) (j : Fin τ.nSub) : GSem nD τ sig := (V d c j, SemLoc.dma cc0_scoped1.sem)
abbrev c2cell (d : Dev nD) (c : Fin τ.nSC) (j : Fin τ.nSub) : GSem nD τ sig := (V d c j, SemLoc.dma cc0_scoped2.sem)

variable (cp : S3x262144.Idx → F .f32) (cg : S32768.Idx → F .f32)

/-- What a subcore is handed: its read shares of the points and of the grid, and its block of the mask. -/
def goRes (d : Dev nD) (L : grid0.Coords) : sProp 𝕄 :=
  iprop((pLoc d ↦{tokOf L} cp) ∗ (gLoc d ↦{tokOf L} cg) ∗ ∃ f, oLoc d ↦[(oSl L).view.set]{fullShare} f)

/-- What it hands back: the shares, and its block of the mask holding the mask. -/
def tdRes (d : Dev nD) (L : grid0.Coords) : sProp 𝕄 :=
  iprop((pLoc d ↦{tokOf L} cp) ∗ (gLoc d ↦{tokOf L} cg) ∗ oLoc d ↦[(oSl L).view.set]{fullShare} (maskAt cp cg))

/-! ## The subcore's own buffers and semaphores -/

/-- A tile's semaphores at zero, one by one. -/
theorem ownSems0_V (d : Dev nD) (L : grid0.Coords) :
    (ownSems0 (thr d L) : sProp 𝕄)
      = iprop(semVal (c0cell d (cV L) (jV L)) 0 ∗ semVal (c1cell d (cV L) (jV L)) 0 ∗ semVal (c2cell d (cV L) (jV L)) 0
          ∗ bigSep ((((ownCells (thr d L)).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

/-- A tile's own buffers, one by one. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The buffers in the body's spelling -/

/-- The points, as the tile sees them. -/
theorem pts_p (d : Dev nD) (L : grid0.Coords) (q : PosShare TreeShare) (f : Buf (Elt F) (pLoc d)) :
    ((pV).view.loc (thr d L) ↦{q} f : sProp 𝕄) = pLoc d ↦{q} f := rfl
/-- The grid, as the tile sees it. -/
theorem pts_g (d : Dev nD) (L : grid0.Coords) (q : PosShare TreeShare) (f : Buf (Elt F) (gLoc d)) :
    ((gV).view.loc (thr d L) ↦{q} f : sProp 𝕄) = gLoc d ↦{q} f := rfl
/-- The tile's share of the mask, as the tile sees it. -/
theorem pts_o (d : Dev nD) (L : grid0.Coords) (f : Buf (Elt F) (oLoc d)) :
    ((oSl L).view.loc (thr d L) ↦[(oSl L).view.set]{fullShare} f : sProp 𝕄) = oLoc d ↦[(oSl L).view.set]{fullShare} f := rfl
/-- The tile's buffer of points. -/
theorem pts_sP (d : Dev nD) (L : grid0.Coords) (f : Buf (Elt F) ((thr d L).loc cc0_scratch0)) :
    ((sP).view.loc (thr d L) ↦{fullShare} f : sProp 𝕄) = (thr d L).loc cc0_scratch0 ↦{fullShare} f := rfl
/-- The tile's copy of the grid. -/
theorem pts_sG (d : Dev nD) (L : grid0.Coords) (f : Buf (Elt F) ((thr d L).loc cc0_scratch1)) :
    ((sG).view.loc (thr d L) ↦{fullShare} f : sProp 𝕄) = (thr d L).loc cc0_scratch1 ↦{fullShare} f := rfl
/-- The tile's buffer of mask words. -/
theorem pts_sO (d : Dev nD) (L : grid0.Coords) (f : Buf (Elt F) ((thr d L).loc cc0_scratch2)) :
    ((sO).view.loc (thr d L) ↦{fullShare} f : sProp 𝕄) = (thr d L).loc cc0_scratch2 ↦{fullShare} f := rfl

/-! ## The values -/

/-- The subcore's block of the points, as its scratch holds it after the first copy. -/
abbrev ptsT (L : grid0.Coords) : S3x8192.Idx → F .f32 := (pSl L).view.read (Elt F) cp

/-- The subcore's block of the mask. -/
def maskT (L : grid0.Coords) : S8192.Idx → F .f32 := (oSl L).view.read (Elt F) (maskAt cp cg)

/-- The loop's invariant: the points' block and the grid in the subcore's memory, and the mask's first `16 k` entries
    computed. -/
def inv (d : Dev nD) (L : grid0.Coords) (k : Nat) (_ : PUnit) : sProp 𝕄 :=
  iprop(((sP).view.loc (thr d L) ↦{fullShare} ptsT cp L) ∗ ((sG).view.loc (thr d L) ↦{fullShare} cg)
    ∗ ∃ f : S8192.Idx → F .f32, ⌜∀ y : S8192.Idx, (y 0).val < 16 * k → f y = maskT cp cg L y⌝ ∗ ((sO).view.loc (thr d L) ↦{fullShare} f))

/-- The subcore's first point. -/
abbrev baseOf (L : grid0.Coords) : ℕ := 16384 * (L 1).val + 8192 * (L 0).val

/-- A tile's share lies within the array of points. -/
theorem baseOf_le (L : grid0.Coords) : baseOf L + 8192 ≤ 262144 := by
  have h0 : (L 0).val < 2 := (L 0).isLt
  have h1 : (L 1).val < 16 := (L 1).isLt
  unfold baseOf; omega

/-- An entry of the points' block is an entry of the points. -/
theorem ptsT_apply (L : grid0.Coords) (j : S3x8192.Idx) (r : Fin 3) (y : Fin 262144) (hr : (j 0).val = r.val) (hy : baseOf L + (j 1).val = y.val) :
    ptsT cp L j = cp (at3 r y) := by
  show cp ((pSl L).view.emb j) = _
  congr 1
  funext a
  apply Fin.ext
  show (k0_off1 L) a + 1 * (j a).val = (at3 r y a).val
  rw [k0_off1_eq]
  match a with
  | ⟨0, _⟩ => show 0 + 1 * (j 0).val = r.val; omega
  | ⟨1, _⟩ => show baseOf L + 1 * (j 1).val = y.val; omega

/-- An entry of the mask's block is an entry of the mask. -/
theorem maskT_apply (L : grid0.Coords) (j : S8192.Idx) (y : Fin 262144) (hy : baseOf L + (j 0).val = y.val) :
    maskT cp cg L j = cellOf cg (cp (at3 0 y)) (cp (at3 1 y)) (cp (at3 2 y)) := by
  show maskAt cp cg ((oSl L).view.emb j) = _
  have h : ((oSl L).view.emb j) 0 = y := by
    apply Fin.ext
    show (k0_off6 L) 0 + 1 * (j 0).val = y.val
    rw [k0_off6_eq]
    show baseOf L + 1 * (j 0).val = y.val
    omega
  unfold maskAt
  rw [h]

/-- The 16 lanes trip `k` loads of row `r` of the points' block. -/
theorem lane_apply (L : grid0.Coords) (k : Fin k0_t1_loop.trips) (off : Fin 2 → ℕ) (inb : ∀ a, off a + S1x16.size a ≤ S3x8192.size a) (r : Fin 3)
    (hoff : off = ![r.val, 16 * k.val]) (x : S16.Idx) (y : Fin 262144) (hy : baseOf L + (16 * k.val + (x 0).val) = y.val) :
    (sP).view.readAt (Elt F) (Rect.unit (s := S3x8192) off S1x16.size inb).toLoadRect (ptsT cp L) (at1 x) = cp (at3 r y) := by
  subst hoff
  refine ptsT_apply cp L _ r y ?_ ?_
  · show r.val + 1 * 0 = r.val; omega
  · show baseOf L + (16 * k.val + 1 * (x 0).val) = y.val; omega

/-- The lanes trip `k` gathers are the mask's entries `16 k … 16 k + 15`. -/
theorem gather_apply (L : grid0.Coords) (k : Fin k0_t1_loop.trips) (v7 v22 v38 : Vec F S1x16 .f32)
    (h7 : v7 = (sP).view.readAt (Elt F) (Rect.unit (s := S3x8192) (k0_off2 k) S1x16.size (k0_off2_inb k)).toLoadRect (ptsT cp L))
    (h22 : v22 = (sP).view.readAt (Elt F) (Rect.unit (s := S3x8192) (k0_off3 k) S1x16.size (k0_off3_inb k)).toLoadRect (ptsT cp L))
    (h38 : v38 = (sP).view.readAt (Elt F) (Rect.unit (s := S3x8192) (k0_off4 k) S1x16.size (k0_off4_inb k)).toLoadRect (ptsT cp L))
    (h : ∀ a x, ((![k0_pay1 (k0_pay2 v7 v22) (k0_pay3 v38) (k0_pay4 (F := F))] : Fin 1 → IVec S16 32) a x).toNat < S32768.size a)
    (x : S16.Idx) (j : S8192.Idx) (hj : (j 0).val = 16 * k.val + (x 0).val) :
    loadIdx (F := F) ((sG.access (.whole S32768)).read (Elt F) cg) ![k0_pay1 (k0_pay2 v7 v22) (k0_pay3 v38) (k0_pay4 (F := F))] h x = maskT cp cg L j := by
  have hb := baseOf_le L
  have hjl : (j 0).val < 8192 := (j 0).isLt
  have hy : baseOf L + (j 0).val < 262144 := by omega
  rw [maskT_apply cp cg L j ⟨baseOf L + (j 0).val, hy⟩ rfl]
  have e7 : v7 (at1 x) = cp (at3 0 ⟨baseOf L + (j 0).val, hy⟩) := by
    rw [h7]; exact lane_apply cp L k _ _ 0 (k0_off2_eq k) x _ (by show _ = baseOf L + (j 0).val; omega)
  have e22 : v22 (at1 x) = cp (at3 1 ⟨baseOf L + (j 0).val, hy⟩) := by
    rw [h22]; exact lane_apply cp L k _ _ 1 (k0_off3_eq k) x _ (by show _ = baseOf L + (j 0).val; omega)
  have e38 : v38 (at1 x) = cp (at3 2 ⟨baseOf L + (j 0).val, hy⟩) := by
    rw [h38]; exact lane_apply cp L k _ _ 2 (k0_off4_eq k) x _ (by show _ = baseOf L + (j 0).val; omega)
  rw [← e7, ← e22, ← e38]
  show cg ((sG.access (.whole S32768)).emb _) = cg _
  congr 1
  funext a
  obtain rfl : a = (0 : Fin 1) := Subsingleton.elim (α := Fin 1) a 0
  apply Fin.ext
  show 0 + 1 * (k0_pay1 (k0_pay2 v7 v22) (k0_pay3 v38) (k0_pay4 (F := F)) x).toNat = (linIx (v7 (at1 x)) (v22 (at1 x)) (v38 (at1 x))).toNat
  rw [pay_lin]; omega

/-- One trip extends the mask's computed part by 16 entries. -/
theorem store_extends (L : grid0.Coords) (k : Fin k0_t1_loop.trips) (f : S8192.Idx → F .f32) (v : S16.Idx → F .f32)
    (hf : ∀ y : S8192.Idx, (y 0).val < 16 * k.val → f y = maskT cp cg L y)
    (hv : ∀ (x : S16.Idx) (j : S8192.Idx), (j 0).val = 16 * k.val + (x 0).val → v x = maskT cp cg L j) (y : S8192.Idx) (hy : (y 0).val < 16 * (k.val + 1)) :
    (sO.access (Rect.unit (s := S8192) (k0_off5 k) S16.size (k0_off5_inb k))).write (Elt F) f v Finset.univ y = maskT cp cg L y := by
  have hemb : ∀ x : S16.Idx, (((sO.access (Rect.unit (s := S8192) (k0_off5 k) S16.size (k0_off5_inb k))).emb x) 0).val = 16 * k.val + (x 0).val := by
    intro x
    show (k0_off5 k) 0 + 1 * (x 0).val = _
    rw [k0_off5_eq]
    show 16 * k.val + 1 * (x 0).val = _
    omega
  by_cases h : (y 0).val < 16 * k.val
  · rw [View.write_of_not_mem, hf y h]
    intro hm
    obtain ⟨x, _, rfl⟩ := Finset.mem_map.mp hm
    have := hemb x
    omega
  · let x : S16.Idx := fun a => ⟨(y 0).val - 16 * k.val, by
      obtain rfl : a = (0 : Fin 1) := Subsingleton.elim (α := Fin 1) a 0
      show _ < 16; omega⟩
    have hx : (sO.access (Rect.unit (s := S8192) (k0_off5 k) S16.size (k0_off5_inb k))).emb x = y := by
      funext a
      obtain rfl : a = (0 : Fin 1) := Subsingleton.elim (α := Fin 1) a 0
      apply Fin.ext
      rw [hemb x]
      show 16 * k.val + ((y 0).val - 16 * k.val) = _
      omega
    have := View.write_emb_of_mem (Val := Elt F) (v := sO.access (Rect.unit (s := S8192) (k0_off5 k) S16.size (k0_off5_inb k))) f v (Finset.mem_univ x)
    rw [hx] at this
    rw [this]
    exact hv x y (by show _ = 16 * k.val + ((y 0).val - 16 * k.val); omega)

/-- One trip of the loop. -/
theorem trip (d : Dev nD) (L : grid0.Coords) (k : Fin k0_t1_loop.trips) (u : Unit) :
    inv cp cg d L k.val ⟨⟩ ⊢ wp frame (wpE (defs₀ (F := F)) 𝒱₀ (thr d L) none) Set.univ
          (k0_t1_body L pV (Memref.isWhole_whole _) gV (Memref.isWhole_whole _) oV (Memref.isWhole_whole _)
            sP (Memref.isWhole_whole _) sG (Memref.isWhole_whole _) sO (Memref.isWhole_whole _) cc0_scoped0 cc0_scoped1 cc0_scoped2 k u)
          fun _ => inv cp cg d L (k.val + 1) ⟨⟩ := by
  unfold inv k0_t1_body
  simp only [k0_part1_eq_skeleton]; unfold k0_part1_skel
  simp only [Prog.lift, Prog.bind_op, Prog.bind_ret, Prog.pure_eq_ret]
  iintro ⟨H0, H1, %f, %hf, H2⟩
  iapply (wp_load 𝒱₀ (thr d L) none Set.univ (m := sP) (S := Finset.univ) (Finset.subset_univ _)) $$ H0; iintro H0
  iapply (wp_load 𝒱₀ (thr d L) none Set.univ (m := sP) (S := Finset.univ) (Finset.subset_univ _)) $$ H0; iintro H0
  iapply (wp_load 𝒱₀ (thr d L) none Set.univ (m := sP) (S := Finset.univ) (Finset.subset_univ _)) $$ H0; iintro H0
  simp only [Prog.bind_ret]
  rw [wp_assume_of _ _ _ _ (chk_pay _ _ _)]
  iapply (SparseCore.wp_vectorLoadIdx 𝒱₀ (thr d L) none Set.univ (base := sG) (S := Finset.univ) (q := fullShare) (Finset.subset_univ _)) $$ H1; iintro H1
  iapply (wp_load 𝒱₀ (thr d L) none Set.univ (m := sO) (S := Finset.univ) (Finset.subset_univ _)) $$ H2; iintro H2
  iapply (wp_store 𝒱₀ (thr d L) none Set.univ (m := sO) (r := Rect.unit (s := S8192) (k0_off5 k) S16.size (k0_off5_inb k)) (Mk := Finset.univ) (S := Finset.univ) (Finset.subset_univ _)) $$ H2; iintro H2
  rw [wp_ret]; imodintro
  isplitl [H0]; · iexact H0
  isplitl [H1]; · iexact H1
  iexists _
  isplitr
  swap; · iexact H2
  ipureintro
  intro y hy
  exact store_extends cp cg L k f _ hf (fun x j hj => gather_apply cp cg L k _ _ _ rfl rfl rfl _ x j hj) y hy

/-- The body on vector subcore `(L 0, L 1)` of device `d`. -/
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ goRes cp cg d L
        ∗ scopedBufs (thr d L) ∗ scopedSems0 (thr d L) ∗ owes (thr d L) O W)
      ⊢ wp frame (wpE (defs₀ (F := F)) 𝒱₀ (thr d L) none) Set.univ
          (cc0__sc_mask_body L pV (Memref.isWhole_whole _) gV (Memref.isWhole_whole _) oV (Memref.isWhole_whole _)
            sP (Memref.isWhole_whole _) sG (Memref.isWhole_whole _) sO (Memref.isWhole_whole _) cc0_scoped0 cc0_scoped1 cc0_scoped2)
          fun _ => iprop(tdRes cp cg d L ∗ scopedBufs (thr d L) ∗ scopedSems0 (thr d L)
            ∗ ∃ W', ⌜∀ p ∈ W', p ∈ W ∨ p.2 = none⌝ ∗ owes (thr d L) O W') := by
  simp only [cc0__sc_mask_body_eq_skeleton]; unfold cc0__sc_mask_body_skel
  rw [(K (F := F)).scopedBufs_V hF d (cV L) (jV L), SparseCore.Cfg.scopedSems0_V (Val := Elt F) d (cV L) (jV L), ownSems0_V, ownBufs_V]
  unfold goRes
  iintro ⟨#Hlv, -, ⟨Hp, Hg, %fo, Ho⟩, ⟨⟨%f0, H0⟩, ⟨%f1, H1⟩, ⟨%f2, H2⟩, Hbufs⟩, ⟨Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hp' := (Entails.of_eq (pts_p (F := F) d L _ _).symm) $$ Hp
  ihave Hg' := (Entails.of_eq (pts_g (F := F) d L _ _).symm) $$ Hg
  ihave Ho' := (Entails.of_eq (pts_o (F := F) d L _).symm) $$ Ho
  ihave H0' := (Entails.of_eq (pts_sP (F := F) d L _).symm) $$ H0
  ihave H1' := (Entails.of_eq (pts_sG (F := F) d L _).symm) $$ H1
  ihave H2' := (Entails.of_eq (pts_sO (F := F) d L _).symm) $$ H2
  sl_exec (disch := exact View.amount_pos _ _ (by decide))
  sl_for (inv cp cg d L) $$ [H0' H1' H2']
  case region =>
    intro k u
    exact trip cp cg d L k u
  · unfold inv
    have e0 : (sP).view.write (Elt F) f0 (ptsT cp L) Finset.univ = ptsT cp L := View.write_whole_univ _ _ _
    have e1 : (sG).view.write (Elt F) f1 cg Finset.univ = cg := View.write_whole_univ _ _ _
    isplitl [H0']
    · iapply (Entails.of_eq (congrArg (fun g => ((sP).view.loc (thr d L) ↦{fullShare} g : sProp 𝕄)) e0)); iexact H0'
    isplitl [H1']
    · iapply (Entails.of_eq (congrArg (fun g => ((sG).view.loc (thr d L) ↦{fullShare} g : sProp 𝕄)) e1)); iexact H1'
    iexists f2
    isplitr
    · ipureintro; intro y hy; exact absurd hy (by omega)
    · iexact H2'
  iintro %_ HI
  unfold inv
  icases HI with ⟨H0, H1, %f, %hf, H2⟩
  have hfull : f = maskT cp cg L := by
    funext y
    have hy : (y 0).val < 8192 := (y 0).isLt
    exact hf y (lt_of_lt_of_le hy (by decide))
  subst hfull
  sl_exec (disch := exact View.amount_pos _ _ (by decide))
  rw [wp_ret]; imodintro
  unfold tdRes
  isplitl [Hp' Hg' Ho']
  · isplitl [Hp']; · iexact Hp'
    isplitl [Hg']; · iexact Hg'
    iapply (Entails.of_eq (pointsTo_congr (ℓ := oLoc d) (I := (oSl L).view.set) (q := fullShare) (f := (oSl L).view.writes (Elt F) fo [⟨Rect.whole S8192, maskT cp cg L⟩]) (g := maskAt cp cg) ?hc))
    rotate_left
    · iexact Ho'
    case hc =>
      intro i hi
      obtain ⟨x, _, rfl⟩ := Finset.mem_map.mp hi
      rw [View.writes_singleton]
      have e : ((oSl L).view.slice (Rect.whole S8192)).emb x = (oSl L).view.emb x := by
        show (oSl L).view.emb ((Rect.whole S8192).emb x) = _
        rw [Rect.emb_whole_apply]
      rw [← e]
      refine (View.write_emb_of_mem (Val := Elt F) (v := (oSl L).view.slice (Rect.whole S8192)) fo (maskT cp cg L) (Finset.mem_univ x)).trans ?_
      rw [e]
      rfl
  isplitl [H0 H1 H2 Hbufs]
  · isplitl [H0]; · iexists _; iexact H0
    isplitl [H1]; · iexists _; iexact H1
    isplitl [H2]; · iexists _; iexact H2
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  · exact .inl hp

end Cert.Proof.K

end

end
-- ==== Proof.Deal.lean ====
/-
  The SparseCore call's payloads: what the TensorCore's call hands each subcore and takes back, the task's obligation,
  and how the three arrays divide among the 32 subcores and come back together.
-/
module

public import proofs.«01_k».proof.Proof.Tile

@[expose] public section

set_option maxRecDepth 16384

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The grid coordinates of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

variable (cp : Dev nD → S3x262144.Idx → F .f32) (cg : Dev nD → S32768.Idx → F .f32)

/-- A SparseCore's share is its subcores' shares. -/
def P : (K (F := F)).Pay (nD := nD) (Val := Elt F) (Name := ℕ) (U := UU) where
  st := fun q d c => match q with | 0 => bigSep Finset.univ fun i : Fin 16 => goRes (cp d) (cg d) d (coordsV c i)
  dn := fun q d c => match q with | 0 => bigSep Finset.univ fun i : Fin 16 => tdRes (cp d) (cg d) d (coordsV c i)
  go := fun q d c i => match q with | 0 => goRes (cp d) (cg d) d (coordsV c i)
  td := fun q d c i => match q with | 0 => tdRes (cp d) (cg d) d (coordsV c i)
  x := fun _ _ => iprop(emp)

instance goRes_storable (d : Dev nD) (L : grid0.Coords) : BI.Storable (upEmb : UEmb _ 𝕄) (goRes (cp d) (cg d) d L) := by
  unfold goRes; infer_instance
instance tdRes_storable (d : Dev nD) (L : grid0.Coords) : BI.Storable (upEmb : UEmb _ 𝕄) (tdRes (cp d) (cg d) d L) := by
  unfold tdRes; infer_instance

/-- A product of storable assertions is storable. -/
theorem storable_bigSep {I : Type} [DecidableEq I] (s : Finset I) (Φ : I → sProp 𝕄) (h : ∀ i, BI.Storable (upEmb : UEmb _ 𝕄) (Φ i)) :
    BI.Storable (upEmb : UEmb _ 𝕄) (bigSep s Φ) := by
  induction s using Finset.induction_on with
  | empty => rw [bigSep_empty]; exact (inferInstance : BI.Storable (upEmb : UEmb _ 𝕄) iprop(emp))
  | insert a s ha ih =>
    rw [SparseCore.bigSep_insert' ha]
    haveI := h a
    infer_instance

instance P_storable : (P (F := F) cp cg).IsStorable where
  st q d c := match q with
    | 0 => storable_bigSep Finset.univ (fun i : Fin 16 => goRes (cp d) (cg d) d (coordsV c i)) fun _ => inferInstance
  dn q d c := match q with
    | 0 => storable_bigSep Finset.univ (fun i : Fin 16 => tdRes (cp d) (cg d) d (coordsV c i)) fun _ => inferInstance
  go q d c i := match q with
    | 0 => (inferInstance : BI.Storable (upEmb : UEmb _ 𝕄) (goRes (cp d) (cg d) d (coordsV c i)))
  td q d c i := match q with
    | 0 => (inferInstance : BI.Storable (upEmb : UEmb _ 𝕄) (tdRes (cp d) (cg d) d (coordsV c i)))

/-- What the call runs on a vector subcore. -/
theorem defs₀_vector (c : Fin τ.nSC) (s : Fin τ.nSub) :
    defs₀ (F := F) (.scVector c s) 0 ()
      = SparseCore.onTile hcore0 hsub0 (fun c s => cc0__sc_mask_body (coordsV c s)
          pV (Memref.isWhole_whole _) gV (Memref.isWhole_whole _) oV (Memref.isWhole_whole _)
          sP (Memref.isWhole_whole _) sG (Memref.isWhole_whole _) sO (Memref.isWhole_whole _) cc0_scoped0 cc0_scoped1 cc0_scoped2) ⟨⟩ c s := rfl

/-- A launch obligation whose postcondition is rearranged. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task every vector subcore runs meets its payload. -/
theorem tileObl : (K (F := F)).TileObl (D (F := F)) 𝒱 (P cp cg) v₀ 0 := by
  intro d c i O W hO _ _
  simp only [show (P cp cg).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (cp d) (cg d) d (coordsV ⟨_, hc.1⟩ ⟨_, hc.2⟩) facts O W hO).trans (wp_mono frame _ _ fun _ => obl_post)

/-- A SparseCore deals its share to its subcores and gathers theirs back. -/
theorem vecSplit : (K (F := F)).VecSplit' (P cp cg) 0 := by
  intro d c
  show (bigSep Finset.univ fun i : Fin 16 => goRes (cp d) (cg d) d (coordsV c i)) ⊢ |={Set.univ}=> iprop(
      (bigSep Finset.univ fun i : Fin 16 => goRes (cp d) (cg d) d (coordsV c i))
      ∗ ((bigSep Finset.univ fun i : Fin 16 => tdRes (cp d) (cg d) d (coordsV c i))
          -∗ bigSep Finset.univ fun i : Fin 16 => tdRes (cp d) (cg d) d (coordsV c i)))
  iintro H; imodintro
  isplitl [H]; · iexact H
  iintro H; iexact H

/-! ## The arrays divided among the 32 subcores -/

/-- The coordinates of subcore number `t`. -/
def unT (t : Fin 32) : Fin 2 × Fin 16 := (⟨t.val % 2, Nat.mod_lt _ (by decide)⟩, ⟨t.val / 2, by have := t.isLt; omega⟩)

def eqT : Fin 2 × Fin 16 ≃ Fin 32 where
  toFun p := ⟨2 * p.2.val + p.1.val, by have := p.1.isLt; have := p.2.isLt; omega⟩
  invFun := unT
  left_inv p := by
    have h1 := p.1.isLt
    refine Prod.ext (Fin.ext ?_) (Fin.ext ?_)
    · show (2 * p.2.val + p.1.val) % 2 = p.1.val; omega
    · show (2 * p.2.val + p.1.val) / 2 = p.2.val; omega
  right_inv t := Fin.ext (by show 2 * (t.val / 2) + t.val % 2 = t.val; omega)

/-- A product over the SparseCores' subcores is one over the 32 numbers. -/
theorem bigSep_tiles (Φ : Fin 32 → sProp 𝕄) :
    (bigSep Finset.univ fun c : Fin 2 => bigSep Finset.univ fun i : Fin 16 => Φ (eqT (c, i))) = bigSep Finset.univ Φ := by
  rw [← SparseCore.bigSep_product Finset.univ Finset.univ (fun p : Fin 2 × Fin 16 => Φ (eqT p)), Finset.univ_product_univ,
    ← Finset.map_univ_equiv eqT]
  exact (Idealize.SL.BI.bigSep_map (s := Finset.univ) eqT.toEmbedding (Φ := Φ)).symm

abbrev LT (t : Fin 32) : grid0.Coords := coordsV (unT t).1 (unT t).2

abbrev oSet (t : Fin 32) : Finset S262144.Idx := (oSl (LT t)).view.set

/-- Tile `t` owns the words from `8192 t` up to `8192 (t + 1)` of the mask. -/
theorem mem_oSet (t : Fin 32) (y : S262144.Idx) : y ∈ oSet t ↔ 8192 * t.val ≤ (y 0).val ∧ (y 0).val < 8192 * t.val + 8192 := by
  show y ∈ ((View.whole main_v17_scv).slice (Rect.unit (s := S262144) (k0_off6 (LT t)) S8192.size (k0_off6_inb (LT t)))).set ↔ _
  rw [View.set_slice_whole, Rect.mem_set_unit]
  have e : (k0_off6 (LT t)) 0 = 8192 * t.val := by
    rw [k0_off6_eq]
    show 16384 * (t.val / 2) + 8192 * (t.val % 2) = _
    omega
  constructor
  · intro h
    have := h 0
    rw [e] at this
    exact this
  · intro h a
    obtain rfl : a = (0 : Fin 1) := Subsingleton.elim (α := Fin 1) a 0
    rw [e]
    exact h

/-- Two tiles' shares of the mask have no word in common. -/
theorem oSets_disjoint : ∀ i ∈ (Finset.univ : Finset (Fin 32)), ∀ j ∈ (Finset.univ : Finset (Fin 32)), i ≠ j → Disjoint (oSet i) (oSet j) := by
  intro i _ j _ h
  refine Finset.disjoint_left.mpr fun y hi hj => h (Fin.ext ?_)
  rw [mem_oSet] at hi hj
  omega

/-- The tiles' shares are the whole mask. -/
theorem oSets_cover : (Finset.univ : Finset (Fin 32)).biUnion oSet = Finset.univ := by
  ext y
  simp only [Finset.mem_biUnion, Finset.mem_univ, true_and, iff_true]
  have hy : (y 0).val < 262144 := (y 0).isLt
  exact ⟨⟨(y 0).val / 8192, by omega⟩, (mem_oSet _ y).mpr ⟨by show 8192 * ((y 0).val / 8192) ≤ _; omega, by show _ < 8192 * ((y 0).val / 8192) + 8192; omega⟩⟩

/-- The tile with number `t` has the number `t`. -/
theorem tid_LT (t : Fin 32) : tid (LT t) = t.val := by
  show 2 * (t.val / 2) + t.val % 2 = t.val; omega

/-- What the call hands out, over the 32 subcores, array by array. -/
theorem st_eq (d : Dev nD) :
    (bigSep Finset.univ fun c : Fin ((K (F := F)).nCore 0) => (P cp cg).st 0 d c)
      = iprop((bigSep Finset.univ fun t : Fin 32 => pLoc d ↦{Transfers.shareTok fullShare 32 t} (cp d))
          ∗ (bigSep Finset.univ fun t : Fin 32 => gLoc d ↦{Transfers.shareTok fullShare 32 t} (cg d))
          ∗ (bigSep Finset.univ fun t : Fin 32 => iprop(∃ f, oLoc d ↦[oSet t]{fullShare} f))) := by
  rw [← bigSep_sep', ← bigSep_sep']
  have e : ∀ p : Fin 2 × Fin 16, coordsV p.1 p.2 = LT (eqT p) := fun p => by
    unfold LT; rw [show unT (eqT p) = p from eqT.left_inv p]
  refine Eq.trans ?_ ((bigSep_tiles (F := F) (fun t => goRes (cp d) (cg d) d (LT t))).trans (bigSep_congr fun t _ => ?_))
  · refine bigSep_congr fun c _ => ?_
    show (bigSep Finset.univ fun i : Fin 16 => goRes (cp d) (cg d) d (coordsV c i)) = _
    exact bigSep_congr fun i _ => congrArg (goRes (cp d) (cg d) d) (e (c, i))
  unfold goRes tokOf
  rw [tid_LT]

/-- What it takes back. -/
theorem dn_eq (d : Dev nD) :
    (bigSep Finset.univ fun c : Fin ((K (F := F)).nCore 0) => (P cp cg).dn 0 d c)
      = iprop((bigSep Finset.univ fun t : Fin 32 => pLoc d ↦{Transfers.shareTok fullShare 32 t} (cp d))
          ∗ (bigSep Finset.univ fun t : Fin 32 => gLoc d ↦{Transfers.shareTok fullShare 32 t} (cg d))
          ∗ (bigSep Finset.univ fun t : Fin 32 => oLoc d ↦[oSet t]{fullShare} (maskAt (cp d) (cg d)))) := by
  rw [← bigSep_sep', ← bigSep_sep']
  have e : ∀ p : Fin 2 × Fin 16, coordsV p.1 p.2 = LT (eqT p) := fun p => by
    unfold LT; rw [show unT (eqT p) = p from eqT.left_inv p]
  refine Eq.trans ?_ ((bigSep_tiles (F := F) (fun t => tdRes (cp d) (cg d) d (LT t))).trans (bigSep_congr fun t _ => ?_))
  · refine bigSep_congr fun c _ => ?_
    show (bigSep Finset.univ fun i : Fin 16 => tdRes (cp d) (cg d) d (coordsV c i)) = _
    exact bigSep_congr fun i _ => congrArg (tdRes (cp d) (cg d) d) (e (c, i))
  unfold tdRes tokOf
  rw [tid_LT]

/-- What stays with the TensorCore while the subcores read. -/
abbrev kept (d : Dev nD) : sProp 𝕄 :=
  iprop((pLoc d ↦{Transfers.shareDrop fullShare 32} (cp d)) ∗ (gLoc d ↦{Transfers.shareDrop fullShare 32} (cg d)))

/-- The three arrays dealt out. -/
theorem deal (d : Dev nD) (fo : Buf (Elt F) (oLoc d)) :
    iprop((pLoc d ↦{fullShare} (cp d)) ∗ (gLoc d ↦{fullShare} (cg d)) ∗ (oLoc d ↦{fullShare} fo))
      ⊢ (iprop(kept cp cg d ∗ bigSep Finset.univ fun c : Fin ((K (F := F)).nCore 0) => (P cp cg).st 0 d c) : sProp 𝕄) := by
  rw [st_eq]
  iintro ⟨Hp, Hg, Ho⟩
  ihave Hp' := (Transfers.pointsTo_toks_split (ℓ := pLoc d) (S := Finset.univ) (f := cp d) fullShare 32) $$ Hp
  ihave Hg' := (Transfers.pointsTo_toks_split (ℓ := gLoc d) (S := Finset.univ) (f := cg d) fullShare 32) $$ Hg
  icases Hp' with ⟨Hpd, Hpt⟩
  icases Hg' with ⟨Hgd, Hgt⟩
  isplitl [Hpd Hgd]
  · isplitl [Hpd] <;> iassumption
  isplitl [Hpt]; · iexact Hpt
  isplitl [Hgt]; · iexact Hgt
  have e : (oLoc d ↦{fullShare} fo : sProp 𝕄) = bigSep Finset.univ fun t : Fin 32 => oLoc d ↦[oSet t]{fullShare} fo := by
    rw [← pointsTo_biUnion Finset.univ (ℓ := oLoc d) oSet oSets_disjoint, oSets_cover]
  have h : (bigSep Finset.univ fun t : Fin 32 => (oLoc d ↦[oSet t]{fullShare} fo : sProp 𝕄))
      ⊢ bigSep Finset.univ fun t : Fin 32 => iprop(∃ f, oLoc d ↦[oSet t]{fullShare} f) :=
    bigSep_mono fun t _ => (show (oLoc d ↦[oSet t]{fullShare} fo : sProp 𝕄) ⊢ iprop(∃ f, oLoc d ↦[oSet t]{fullShare} f) from by iintro H; iexists fo; iexact H)
  ihave Ho1 := (Entails.of_eq e) $$ Ho
  iapply h
  iexact Ho1

/-- The three arrays gathered back, the mask computed. -/
theorem gather (d : Dev nD) :
    iprop(kept cp cg d ∗ bigSep Finset.univ fun c : Fin ((K (F := F)).nCore 0) => (P cp cg).dn 0 d c)
      ⊢ (iprop((pLoc d ↦{fullShare} (cp d)) ∗ (gLoc d ↦{fullShare} (cg d)) ∗ (oLoc d ↦{fullShare} (maskAt (cp d) (cg d)))) : sProp 𝕄) := by
  rw [dn_eq]
  iintro ⟨⟨Hpd, Hgd⟩, Hpt, Hgt, Ho⟩
  isplitl [Hpd Hpt]
  · iapply (Transfers.pointsTo_toks_join (ℓ := pLoc d) (S := Finset.univ) (f := cp d) fullShare 32)
    isplitl [Hpd] <;> iassumption
  isplitl [Hgd Hgt]
  · iapply (Transfers.pointsTo_toks_join (ℓ := gLoc d) (S := Finset.univ) (f := cg d) fullShare 32)
    isplitl [Hgd] <;> iassumption
  have e : (oLoc d ↦{fullShare} (maskAt (cp d) (cg d)) : sProp 𝕄)
      = bigSep Finset.univ fun t : Fin 32 => oLoc d ↦[oSet t]{fullShare} (maskAt (cp d) (cg d)) := by
    rw [← pointsTo_biUnion Finset.univ (ℓ := oLoc d) oSet oSets_disjoint, oSets_cover]
  iapply (Entails.of_eq e.symm)
  iexact Ho

end Cert.Proof.K

end

end
-- ==== Proof.TcBody.lean ====
/-
  The TensorCore pipeline's proof data: what each staging buffer holds at each grid point, and the body's triple.
  The arrays as the region finds them are a parameter `V`; after the body at a point each input's buffer holds its
  block and each output's what the body computes from the input blocks.
-/
module

public import proofs.«01_k».proof.Proof.Setup
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.UnfoldOut
public import Idealize.ShloMosaic.Lib.WordCmp

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) (HIx 1) ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) (HIx 1) ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) (HIx 1) ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) (HIx 1) ℕ UU ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) (HIx 1) ℕ UU ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) (HIx 1) ℕ UU ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) (HIx 1) ℕ UU ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) (HIx 1) ℕ UU ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) (HIx 1) ℕ UU ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) (HIx 1) ℕ UU ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) (HIx 1) ℕ UU ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) (HIx 1) ℕ UU ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) (HIx 1) ℕ UU ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) (HIx 1) ℕ UU ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) (HIx 1) ℕ UU ℕ cfg1 c) (hA : dat.A 14 = V c (Pipeline.arrRef spec1 14))
    (hafter : ∀ t, dat.after 14 t = iblk V c 14 t) (t : Fin cfg1.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) (HIx 1) ℕ UU ℕ cfg1 c) (hA : dat.A 15 = V c (Pipeline.arrRef spec1 15))
    (hafter : ∀ t, dat.after 15 t = iblk V c 15 t) (t : Fin cfg1.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) (HIx 1) ℕ UU ℕ cfg1 c) (hA : dat.A 16 = V c (Pipeline.arrRef spec1 16))
    (hafter : ∀ t, dat.after 16 t = iblk V c 16 t) (t : Fin cfg1.N) (d) : dat.before 16 t d = iblk V c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_17_of {c : Dev nD} (dat : Dat τ (Elt F) (HIx 1) ℕ UU ℕ cfg1 c) (hA : dat.A 17 = V c (Pipeline.arrRef spec1 17))
    (hafter : ∀ t, dat.after 17 t = iblk V c 17 t) (t : Fin cfg1.N) (d) : dat.before 17 t d = iblk V c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_18_of {c : Dev nD} (dat : Dat τ (Elt F) (HIx 1) ℕ UU ℕ cfg1 c) (hA : dat.A 18 = V c (Pipeline.arrRef spec1 18))
    (hafter : ∀ t, dat.after 18 t = iblk V c 18 t) (t : Fin cfg1.N) (d) : dat.before 18 t d = iblk V c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S1x90 := Rect.unit (s := S1x90) ![0, 0] S1x90.size inb_S1x90_S1x90_0_0
abbrev r1_1 : Rect S64x64 := Rect.unit (s := S64x64) ![0, 0] S64x64.size inb_S64x64_S64x64_0_0
abbrev r1_2 : Rect S90x64 := Rect.unit (s := S90x64) ![0, 0] S90x64.size inb_S90x64_S90x64_0_0
abbrev r1_3 : Rect S1x64 := Rect.unit (s := S1x64) ![0, 0] S1x64.size inb_S1x64_S1x64_0_0
abbrev r1_4 : Rect S1x1 := Rect.unit (s := S1x1) ![0, 0] S1x1.size inb_S1x1_S1x1_0_0
abbrev r1_5 : Rect S64x3 := Rect.unit (s := S64x3) ![0, 0] S64x3.size inb_S64x3_S64x3_0_0
abbrev r1_6 : Rect S1x3 := Rect.unit (s := S1x3) ![0, 0] S1x3.size inb_S1x3_S1x3_0_0
abbrev r1_7 : Rect S64x64x3 := Rect.unit (s := S64x64x3) ![0, 0, 0] S64x64x3.size inb_S64x64x3_S64x64x3_0_0_0

/-! ## What the body leaves in each output window's buffer -/

/-- The density window's staging buffer after the body, from the input windows' blocks: its one store. -/
def out1_19 (x0 : Vec F S64x64 .f32) (x1 : Vec F S64x64 .f32) (x2 : Vec F S64x64 .f32) (x3 : Vec F S64x3 .f32) (x4 : Vec F S64x64 .f32) (x5 : Vec F S1x90 .f32) (x6 : Vec F S90x64 .f32) (x7 : Vec F S90x64 .f32) (x8 : Vec F S1x64 .f32) (x9 : Vec F S64x64 .f32) (x10 : Vec F S1x64 .f32) (x11 : Vec F S64x64 .f32) (x12 : Vec F S90x64 .f32) (x13 : Vec F S90x64 .f32) (x14 : Vec F S1x64 .f32) (x15 : Vec F S64x3 .f32) (x16 : Vec F S1x3 .f32) (x17 : Vec F S1x64 .f32) (x18 : Vec F S1x1 .f32) : Vec F S64x64 .f32 :=
  View.canon [⟨r1_1, k1_pay2 (k1_pay9 (k1_pay7 (k1_pay5 (View.ld x5 r1_0) (View.ld x0 r1_1) (View.ld x1 r1_1) (View.ld x2 r1_1) (View.ld x6 r1_2) (View.ld x7 r1_2)) (k1_pay6 (View.ld x8 r1_3)) (View.ld x9 r1_1) (View.ld x10 r1_3)) (Named.named κ "tenth" 0x3DCCCCCD#32) (View.ld x17 r1_3) (View.ld x18 r1_4)) (View.ld x4 r1_1)⟩]

/-- Its stores tile the buffer (checked by evaluation), so they cover it. -/
theorem cover1_19 (p0 : Vec F S64x64 .f32) (y : S64x64.Idx) :
    ∃ pc ∈ ([⟨r1_1, p0⟩] : List (View.Piece (Elt F) S64x64 .f32)), y ∈ pc.1.set :=
  View.cover_of_tiled [⟨r1_1, p0⟩] S64x64.size (by rfl) y

/-- The colour window's staging buffer after the body, from the input windows' blocks: its one store. -/
def out1_20 (x0 : Vec F S64x64 .f32) (x1 : Vec F S64x64 .f32) (x2 : Vec F S64x64 .f32) (x3 : Vec F S64x3 .f32) (x4 : Vec F S64x64 .f32) (x5 : Vec F S1x90 .f32) (x6 : Vec F S90x64 .f32) (x7 : Vec F S90x64 .f32) (x8 : Vec F S1x64 .f32) (x9 : Vec F S64x64 .f32) (x10 : Vec F S1x64 .f32) (x11 : Vec F S64x64 .f32) (x12 : Vec F S90x64 .f32) (x13 : Vec F S90x64 .f32) (x14 : Vec F S1x64 .f32) (x15 : Vec F S64x3 .f32) (x16 : Vec F S1x3 .f32) (x17 : Vec F S1x64 .f32) (x18 : Vec F S1x1 .f32) : Vec F S64x64x3 .f32 :=
  View.canon [⟨r1_7, k1_pay3 (k1_pay14 (k1_pay4 (View.ld x5 r1_0)) (k1_pay8 (k1_pay7 (k1_pay5 (View.ld x5 r1_0) (View.ld x0 r1_1) (View.ld x1 r1_1) (View.ld x2 r1_1) (View.ld x6 r1_2) (View.ld x7 r1_2)) (k1_pay6 (View.ld x8 r1_3)) (View.ld x9 r1_1) (View.ld x10 r1_3)) (Named.named κ "tenth" 0x3DCCCCCD#32)) (k1_pay10 (View.ld x3 r1_5)) (iota .tc S64x90 32 [1] iota_S64x90_d1_w32) k1_pay11 (k1_pay12 (View.ld x3 r1_5)) (View.ld x12 r1_2) (View.ld x13 r1_2) (View.ld x14 r1_3) (View.ld x11 r1_1)) (k1_pay15 (k1_pay4 (View.ld x5 r1_0)) (k1_pay8 (k1_pay7 (k1_pay5 (View.ld x5 r1_0) (View.ld x0 r1_1) (View.ld x1 r1_1) (View.ld x2 r1_1) (View.ld x6 r1_2) (View.ld x7 r1_2)) (k1_pay6 (View.ld x8 r1_3)) (View.ld x9 r1_1) (View.ld x10 r1_3)) (Named.named κ "tenth" 0x3DCCCCCD#32)) (k1_pay10 (View.ld x3 r1_5)) (iota .tc S64x90 32 [1] iota_S64x90_d1_w32) k1_pay11 (k1_pay12 (View.ld x3 r1_5)) (View.ld x12 r1_2) (View.ld x13 r1_2) (View.ld x14 r1_3) (View.ld x11 r1_1)) (View.ld x15 r1_5) (View.ld x16 r1_6) (View.ld x4 r1_1)⟩]

/-- Its stores tile the buffer (checked by evaluation), so they cover it. -/
theorem cover1_20 (p0 : Vec F S64x64x3 .f32) (y : S64x64x3.Idx) :
    ∃ pc ∈ ([⟨r1_7, p0⟩] : List (View.Piece (Elt F) S64x64x3 .f32)), y ∈ pc.1.set :=
  View.cover_of_tiled [⟨r1_7, p0⟩] S64x64x3.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel (c : Dev nD) (E : Set ℕ) (i : grid1.Coords) (arg1 : Memref sig .tc .vmem S64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x3 .f32) (harg4 : arg4.IsWhole) (arg5 : Memref sig .tc .vmem S64x64 .f32) (harg5 : arg5.IsWhole) (arg6 : Memref sig .tc .vmem S1x90 .f32) (harg6 : arg6.IsWhole) (arg7 : Memref sig .tc .vmem S90x64 .f32) (harg7 : arg7.IsWhole) (arg8 : Memref sig .tc .vmem S90x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S90x64 .f32) (harg13 : arg13.IsWhole) (arg14 : Memref sig .tc .vmem S90x64 .f32) (harg14 : arg14.IsWhole) (arg15 : Memref sig .tc .vmem S1x64 .f32) (harg15 : arg15.IsWhole) (arg16 : Memref sig .tc .vmem S64x3 .f32) (harg16 : arg16.IsWhole) (arg17 : Memref sig .tc .vmem S1x3 .f32) (harg17 : arg17.IsWhole) (arg18 : Memref sig .tc .vmem S1x64 .f32) (harg18 : arg18.IsWhole) (arg19 : Memref sig .tc .vmem S1x1 .f32) (harg19 : arg19.IsWhole) (arg20 : Memref sig .tc .vmem S64x64 .f32) (harg20 : arg20.IsWhole) (arg21 : Memref sig .tc .vmem S64x64x3 .f32) (harg21 : arg21.IsWhole)
    (x0 : Vec F S64x64 .f32) (x1 : Vec F S64x64 .f32) (x2 : Vec F S64x64 .f32) (x3 : Vec F S64x3 .f32) (x4 : Vec F S64x64 .f32) (x5 : Vec F S1x90 .f32) (x6 : Vec F S90x64 .f32) (x7 : Vec F S90x64 .f32) (x8 : Vec F S1x64 .f32) (x9 : Vec F S64x64 .f32) (x10 : Vec F S1x64 .f32) (x11 : Vec F S64x64 .f32) (x12 : Vec F S90x64 .f32) (x13 : Vec F S90x64 .f32) (x14 : Vec F S1x64 .f32) (x15 : Vec F S64x3 .f32) (x16 : Vec F S1x3 .f32) (x17 : Vec F S1x64 .f32) (x18 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out1_19 x0 x1 x2 x3 x4 x5 x6 x7 x8 x9 x10 x11 x12 x13 x14 x15 x16 x17 x18) ∗ owns (c : Thread nD τ) arg21 fullShare (out1_20 x0 x1 x2 x3 x4 x5 x6 x7 x8 x9 x10 x11 x12 x13 x14 x15 x16 x17 x18)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__tc_body_eq_skeleton]; unfold cc1__tc_body_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover1_19 _)).trans ?_
    rfl
  iexists _; isplitr
  swap; · iexact H20
  ipureintro
  refine (View.read_writes_eq_canon _ _ _ (cover1_20 _)).trans ?_
  rfl

/-! ## The pipeline's proof data -/

/-- The proof data of the one pipeline on core `c`: the arrays as the region finds them (`V`); after the body at
    point `t` each input's buffer at its block and each output's at `out1_W` of the input blocks; the invariant the
    class's (Lib/Pipeline/Frame.lean `ΦA`: the scoped rest and the generator register, untouched); nothing owed;
    full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => out1_19 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t)
    | ⟨20, _⟩ => out1_20 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t)
    | ⟨_ + 21, h⟩ => absurd h (Nat.not_lt.2 (Nat.le_add_left _ _))
  Φ _ := Pipeline.scopedRest spec1 c
  q _ := fullShare
  owed _ := 0
  recorded _ := {p | (K (F := F)).lev ((c : Thread nD τ), p.1) p.2 ≤ 8}

/-- The proof data's arrays are the region-entry contents: the proof data's definition projected (`dsimp`), so that
    `V` — a fold over @main's host prefix, long for some programs — is never unfolded to check it. -/
theorem A_eq (c : Dev nD) (w : Fin cfg1.W) : (dats V 0 c).A w = V c (Pipeline.arrRef spec1 w) := by
  dsimp only [dats]

/-- What the body leaves, window by window (the proof data's `match` reduced by `dsimp`, never `rfl`: Lib/Pipeline.lean `Dat`). -/
theorem after1_0 (c : Dev nD) (t : Fin cfg1.N) : (dats V 0 c).after 0 t = iblk V c 0 t := by dsimp only [dats]
/-- Window 1 after step `t` holds its block of the array. -/
theorem after1_1 (c : Dev nD) (t : Fin cfg1.N) : (dats V 0 c).after 1 t = iblk V c 1 t := by dsimp only [dats]
/-- Window 2 after step `t` holds its block of the array. -/
theorem after1_2 (c : Dev nD) (t : Fin cfg1.N) : (dats V 0 c).after 2 t = iblk V c 2 t := by dsimp only [dats]
/-- Window 3 after step `t` holds its block of the array. -/
theorem after1_3 (c : Dev nD) (t : Fin cfg1.N) : (dats V 0 c).after 3 t = iblk V c 3 t := by dsimp only [dats]
/-- Window 4 after step `t` holds its block of the array. -/
theorem after1_4 (c : Dev nD) (t : Fin cfg1.N) : (dats V 0 c).after 4 t = iblk V c 4 t := by dsimp only [dats]
/-- Window 5 after step `t` holds its block of the array. -/
theorem after1_5 (c : Dev nD) (t : Fin cfg1.N) : (dats V 0 c).after 5 t = iblk V c 5 t := by dsimp only [dats]
/-- Window 6 after step `t` holds its block of the array. -/
theorem after1_6 (c : Dev nD) (t : Fin cfg1.N) : (dats V 0 c).after 6 t = iblk V c 6 t := by dsimp only [dats]
/-- Window 7 after step `t` holds its block of the array. -/
theorem after1_7 (c : Dev nD) (t : Fin cfg1.N) : (dats V 0 c).after 7 t = iblk V c 7 t := by dsimp only [dats]
/-- Window 8 after step `t` holds its block of the array. -/
theorem after1_8 (c : Dev nD) (t : Fin cfg1.N) : (dats V 0 c).after 8 t = iblk V c 8 t := by dsimp only [dats]
/-- Window 9 after step `t` holds its block of the array. -/
theorem after1_9 (c : Dev nD) (t : Fin cfg1.N) : (dats V 0 c).after 9 t = iblk V c 9 t := by dsimp only [dats]
/-- Window 10 after step `t` holds its block of the array. -/
theorem after1_10 (c : Dev nD) (t : Fin cfg1.N) : (dats V 0 c).after 10 t = iblk V c 10 t := by dsimp only [dats]
/-- Window 11 after step `t` holds its block of the array. -/
theorem after1_11 (c : Dev nD) (t : Fin cfg1.N) : (dats V 0 c).after 11 t = iblk V c 11 t := by dsimp only [dats]
/-- Window 12 after step `t` holds its block of the array. -/
theorem after1_12 (c : Dev nD) (t : Fin cfg1.N) : (dats V 0 c).after 12 t = iblk V c 12 t := by dsimp only [dats]
/-- Window 13 after step `t` holds its block of the array. -/
theorem after1_13 (c : Dev nD) (t : Fin cfg1.N) : (dats V 0 c).after 13 t = iblk V c 13 t := by dsimp only [dats]
/-- Window 14 after step `t` holds its block of the array. -/
theorem after1_14 (c : Dev nD) (t : Fin cfg1.N) : (dats V 0 c).after 14 t = iblk V c 14 t := by dsimp only [dats]
/-- Window 15 after step `t` holds its block of the array. -/
theorem after1_15 (c : Dev nD) (t : Fin cfg1.N) : (dats V 0 c).after 15 t = iblk V c 15 t := by dsimp only [dats]
/-- Window 16 after step `t` holds its block of the array. -/
theorem after1_16 (c : Dev nD) (t : Fin cfg1.N) : (dats V 0 c).after 16 t = iblk V c 16 t := by dsimp only [dats]
/-- Window 17 after step `t` holds its block of the array. -/
theorem after1_17 (c : Dev nD) (t : Fin cfg1.N) : (dats V 0 c).after 17 t = iblk V c 17 t := by dsimp only [dats]
/-- Window 18 after step `t` holds its block of the array. -/
theorem after1_18 (c : Dev nD) (t : Fin cfg1.N) : (dats V 0 c).after 18 t = iblk V c 18 t := by dsimp only [dats]
/-- Window 19 after step `t` holds its computed block. -/
theorem after1_19 (c : Dev nD) (t : Fin cfg1.N) : (dats V 0 c).after 19 t = out1_19 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) := by dsimp only [dats]
/-- Window 20 after step `t` holds its computed block. -/
theorem after1_20 (c : Dev nD) (t : Fin cfg1.N) : (dats V 0 c).after 20 t = out1_20 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) := by dsimp only [dats]

/-- Each input's current staging buffer holds its block at every point, fetched there or not (`beforeK_W_of`). -/
theorem before1_0 (c : Dev nD) (t : Fin cfg1.N) (d) : (dats V 0 c).before 0 t d = iblk V c 0 t :=
  before1_0_of V (dats V 0 c) (A_eq V c 0) (after1_0 V c) t d
/-- Window 1 before step `t` holds its block of the array. -/
theorem before1_1 (c : Dev nD) (t : Fin cfg1.N) (d) : (dats V 0 c).before 1 t d = iblk V c 1 t :=
  before1_1_of V (dats V 0 c) (A_eq V c 1) (after1_1 V c) t d
/-- Window 2 before step `t` holds its block of the array. -/
theorem before1_2 (c : Dev nD) (t : Fin cfg1.N) (d) : (dats V 0 c).before 2 t d = iblk V c 2 t :=
  before1_2_of V (dats V 0 c) (A_eq V c 2) (after1_2 V c) t d
/-- Window 3 before step `t` holds its block of the array. -/
theorem before1_3 (c : Dev nD) (t : Fin cfg1.N) (d) : (dats V 0 c).before 3 t d = iblk V c 3 t :=
  before1_3_of V (dats V 0 c) (A_eq V c 3) (after1_3 V c) t d
/-- Window 4 before step `t` holds its block of the array. -/
theorem before1_4 (c : Dev nD) (t : Fin cfg1.N) (d) : (dats V 0 c).before 4 t d = iblk V c 4 t :=
  before1_4_of V (dats V 0 c) (A_eq V c 4) (after1_4 V c) t d
/-- Window 5 before step `t` holds its block of the array. -/
theorem before1_5 (c : Dev nD) (t : Fin cfg1.N) (d) : (dats V 0 c).before 5 t d = iblk V c 5 t :=
  before1_5_of V (dats V 0 c) (A_eq V c 5) (after1_5 V c) t d
/-- Window 6 before step `t` holds its block of the array. -/
theorem before1_6 (c : Dev nD) (t : Fin cfg1.N) (d) : (dats V 0 c).before 6 t d = iblk V c 6 t :=
  before1_6_of V (dats V 0 c) (A_eq V c 6) (after1_6 V c) t d
/-- Window 7 before step `t` holds its block of the array. -/
theorem before1_7 (c : Dev nD) (t : Fin cfg1.N) (d) : (dats V 0 c).before 7 t d = iblk V c 7 t :=
  before1_7_of V (dats V 0 c) (A_eq V c 7) (after1_7 V c) t d
/-- Window 8 before step `t` holds its block of the array. -/
theorem before1_8 (c : Dev nD) (t : Fin cfg1.N) (d) : (dats V 0 c).before 8 t d = iblk V c 8 t :=
  before1_8_of V (dats V 0 c) (A_eq V c 8) (after1_8 V c) t d
/-- Window 9 before step `t` holds its block of the array. -/
theorem before1_9 (c : Dev nD) (t : Fin cfg1.N) (d) : (dats V 0 c).before 9 t d = iblk V c 9 t :=
  before1_9_of V (dats V 0 c) (A_eq V c 9) (after1_9 V c) t d
/-- Window 10 before step `t` holds its block of the array. -/
theorem before1_10 (c : Dev nD) (t : Fin cfg1.N) (d) : (dats V 0 c).before 10 t d = iblk V c 10 t :=
  before1_10_of V (dats V 0 c) (A_eq V c 10) (after1_10 V c) t d
/-- Window 11 before step `t` holds its block of the array. -/
theorem before1_11 (c : Dev nD) (t : Fin cfg1.N) (d) : (dats V 0 c).before 11 t d = iblk V c 11 t :=
  before1_11_of V (dats V 0 c) (A_eq V c 11) (after1_11 V c) t d
/-- Window 12 before step `t` holds its block of the array. -/
theorem before1_12 (c : Dev nD) (t : Fin cfg1.N) (d) : (dats V 0 c).before 12 t d = iblk V c 12 t :=
  before1_12_of V (dats V 0 c) (A_eq V c 12) (after1_12 V c) t d
/-- Window 13 before step `t` holds its block of the array. -/
theorem before1_13 (c : Dev nD) (t : Fin cfg1.N) (d) : (dats V 0 c).before 13 t d = iblk V c 13 t :=
  before1_13_of V (dats V 0 c) (A_eq V c 13) (after1_13 V c) t d
/-- Window 14 before step `t` holds its block of the array. -/
theorem before1_14 (c : Dev nD) (t : Fin cfg1.N) (d) : (dats V 0 c).before 14 t d = iblk V c 14 t :=
  before1_14_of V (dats V 0 c) (A_eq V c 14) (after1_14 V c) t d
/-- Window 15 before step `t` holds its block of the array. -/
theorem before1_15 (c : Dev nD) (t : Fin cfg1.N) (d) : (dats V 0 c).before 15 t d = iblk V c 15 t :=
  before1_15_of V (dats V 0 c) (A_eq V c 15) (after1_15 V c) t d
/-- Window 16 before step `t` holds its block of the array. -/
theorem before1_16 (c : Dev nD) (t : Fin cfg1.N) (d) : (dats V 0 c).before 16 t d = iblk V c 16 t :=
  before1_16_of V (dats V 0 c) (A_eq V c 16) (after1_16 V c) t d
/-- Window 17 before step `t` holds its block of the array. -/
theorem before1_17 (c : Dev nD) (t : Fin cfg1.N) (d) : (dats V 0 c).before 17 t d = iblk V c 17 t :=
  before1_17_of V (dats V 0 c) (A_eq V c 17) (after1_17 V c) t d
/-- Window 18 before step `t` holds its block of the array. -/
theorem before1_18 (c : Dev nD) (t : Fin cfg1.N) (d) : (dats V 0 c).before 18 t d = iblk V c 18 t :=
  before1_18_of V (dats V 0 c) (A_eq V c 18) (after1_18 V c) t d

/-! ## The body obligation, at a generic point -/

/-- What the body is called with at point `t` (Lib/Pipeline.lean `BodyObligation`'s precondition, the windows one by one), -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d))
    ∗ (∃ d, owns (c : Thread nD τ) (st1_3 t) fullShare ((dats V 0 c).before 3 t d))
    ∗ (∃ d, owns (c : Thread nD τ) (st1_4 t) fullShare ((dats V 0 c).before 4 t d))
    ∗ (∃ d, owns (c : Thread nD τ) (st1_5 t) fullShare ((dats V 0 c).before 5 t d))
    ∗ (∃ d, owns (c : Thread nD τ) (st1_6 t) fullShare ((dats V 0 c).before 6 t d))
    ∗ (∃ d, owns (c : Thread nD τ) (st1_7 t) fullShare ((dats V 0 c).before 7 t d))
    ∗ (∃ d, owns (c : Thread nD τ) (st1_8 t) fullShare ((dats V 0 c).before 8 t d))
    ∗ (∃ d, owns (c : Thread nD τ) (st1_9 t) fullShare ((dats V 0 c).before 9 t d))
    ∗ (∃ d, owns (c : Thread nD τ) (st1_10 t) fullShare ((dats V 0 c).before 10 t d))
    ∗ (∃ d, owns (c : Thread nD τ) (st1_11 t) fullShare ((dats V 0 c).before 11 t d))
    ∗ (∃ d, owns (c : Thread nD τ) (st1_12 t) fullShare ((dats V 0 c).before 12 t d))
    ∗ (∃ d, owns (c : Thread nD τ) (st1_13 t) fullShare ((dats V 0 c).before 13 t d))
    ∗ (∃ d, owns (c : Thread nD τ) (st1_14 t) fullShare ((dats V 0 c).before 14 t d))
    ∗ (∃ d, owns (c : Thread nD τ) (st1_15 t) fullShare ((dats V 0 c).before 15 t d))
    ∗ (∃ d, owns (c : Thread nD τ) (st1_16 t) fullShare ((dats V 0 c).before 16 t d))
    ∗ (∃ d, owns (c : Thread nD τ) (st1_17 t) fullShare ((dats V 0 c).before 17 t d))
    ∗ (∃ d, owns (c : Thread nD τ) (st1_18 t) fullShare ((dats V 0 c).before 18 t d))
    ∗ (∃ d, owns (c : Thread nD τ) (st1_19 t) fullShare ((dats V 0 c).before 19 t d))
    ∗ (∃ d, owns (c : Thread nD τ) (st1_20 t) fullShare ((dats V 0 c).before 20 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t)
    ∗ owns (c : Thread nD τ) (st1_3 t) fullShare ((dats V 0 c).after 3 t)
    ∗ owns (c : Thread nD τ) (st1_4 t) fullShare ((dats V 0 c).after 4 t)
    ∗ owns (c : Thread nD τ) (st1_5 t) fullShare ((dats V 0 c).after 5 t)
    ∗ owns (c : Thread nD τ) (st1_6 t) fullShare ((dats V 0 c).after 6 t)
    ∗ owns (c : Thread nD τ) (st1_7 t) fullShare ((dats V 0 c).after 7 t)
    ∗ owns (c : Thread nD τ) (st1_8 t) fullShare ((dats V 0 c).after 8 t)
    ∗ owns (c : Thread nD τ) (st1_9 t) fullShare ((dats V 0 c).after 9 t)
    ∗ owns (c : Thread nD τ) (st1_10 t) fullShare ((dats V 0 c).after 10 t)
    ∗ owns (c : Thread nD τ) (st1_11 t) fullShare ((dats V 0 c).after 11 t)
    ∗ owns (c : Thread nD τ) (st1_12 t) fullShare ((dats V 0 c).after 12 t)
    ∗ owns (c : Thread nD τ) (st1_13 t) fullShare ((dats V 0 c).after 13 t)
    ∗ owns (c : Thread nD τ) (st1_14 t) fullShare ((dats V 0 c).after 14 t)
    ∗ owns (c : Thread nD τ) (st1_15 t) fullShare ((dats V 0 c).after 15 t)
    ∗ owns (c : Thread nD τ) (st1_16 t) fullShare ((dats V 0 c).after 16 t)
    ∗ owns (c : Thread nD τ) (st1_17 t) fullShare ((dats V 0 c).after 17 t)
    ∗ owns (c : Thread nD τ) (st1_18 t) fullShare ((dats V 0 c).after 18 t)
    ∗ owns (c : Thread nD τ) (st1_19 t) fullShare ((dats V 0 c).after 19 t)
    ∗ owns (c : Thread nD τ) (st1_20 t) fullShare ((dats V 0 c).after 20 t))

set_option maxHeartbeats 2000000 in
/-- The body at any point: the inputs' memrefs hold their blocks (`before1_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10, before1_11, before1_12, before1_13, before1_14, before1_15, before1_16, before1_17, before1_18]
  rw [show (dats V 0 c).Φ t.succ = (dats V 0 c).Φ t.castSucc from rfl,
    show (dats V 0 c).owesAt none t.succ = (dats V 0 c).owesAt none t.castSucc from rfl,
    after1_0, after1_1, after1_2, after1_3, after1_4, after1_5, after1_6, after1_7, after1_8, after1_9, after1_10, after1_11, after1_12, after1_13, after1_14, after1_15, after1_16, after1_17, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid1.coords t) _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt1` spells it. -/
theorem defs₀_row (t : Fin cfg1.N) :
    defs₀ (F := F) .tc cfg1.body (cfg1.bodyArgs t (cfg1.slots t)) = bodyAt1 t := by
  rfl

/-- The library's body obligation, at every point: the body's triple restated (Lib/Pipeline/FrameBody.lean `triple_restated`). -/
theorem body_obligation (c : Dev nD) : BodyObligation (dats (F := F) V 0 c) (defs₀ (F := F)) Variants.none none Set.univ := fun t => by
  rw [bigSep_W1, bigSep_W1, defs₀_row]
  exact triple_restated (sound_body V c t) rfl .rfl fun _ => .rfl

end Cert.Proof.K

end

end
-- ==== Proof.Host.lean ====
/-
  The host operations of the kernel's program in their three stretches, and the contents of the device's buffers after
  each step of the run: before the SparseCore call, after it, before the TensorCore call, after it, and at the end.
-/
module

public import proofs.«01_k».proof.Proof.Deal
public import proofs.«01_k».proof.Proof.TcBody
public import Idealize.ShloMosaic.Lib.StableHlo.Run
public import Idealize.ShloMosaic.Lib.Pipeline.Frame
public import Idealize.ShloMosaic.Lib.Pipeline.RegionArraysS

@[expose] public section

set_option maxRecDepth 16384

noncomputable section

namespace Cert.Proof.K

open Cert.KernelIdeal Cert.KernelIdeal.Gen

open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI Idealize.SL.BI.BIBase Idealize.SL.BI.Laws Idealize.SL.ProofMode Idealize.SL.Sem
open Idealize.ShloMosaic.Rounds

variable {F : FTy → Type} [FloatOps F] [Named F]

/-! ## The program as three straight lines around its two kernel calls -/

/-- The host operations of stretch 0. -/
abbrev ops0 : List (HloOp τ sig (Elt F)) :=
  [ unary main_arg0 main_v0 (broadcastInDim S4096x1x3 ![0, 2] bcast_S4096x3_S4096x1x3_0_2 : (⟨S4096x3, .f32⟩ : BufTy).Contents (Elt F) → (⟨S4096x1x3, .f32⟩ : BufTy).Contents (Elt F)),
    unary main_arg1 main_v1 (broadcastInDim S4096x1x3 ![0, 2] bcast_S4096x3_S4096x1x3_0_2 : (⟨S4096x3, .f32⟩ : BufTy).Contents (Elt F) → (⟨S4096x1x3, .f32⟩ : BufTy).Contents (Elt F)),
    unary main_arg2 main_v2 (broadcastInDim S4096x64x1 ![0, 1] bcast_S4096x64_S4096x64x1_0_1 : (⟨S4096x64, .f32⟩ : BufTy).Contents (Elt F) → (⟨S4096x64x1, .f32⟩ : BufTy).Contents (Elt F)),
    unary main_v1 main_v3 (broadcastInDim S4096x64x3 ![0, 1, 2] bcast_S4096x1x3_S4096x64x3_0_1_2 : (⟨S4096x1x3, .f32⟩ : BufTy).Contents (Elt F) → (⟨S4096x64x3, .f32⟩ : BufTy).Contents (Elt F)),
    unary main_v2 main_v4 (broadcastInDim S4096x64x3 ![0, 1, 2] bcast_S4096x64x1_S4096x64x3_0_1_2 : (⟨S4096x64x1, .f32⟩ : BufTy).Contents (Elt F) → (⟨S4096x64x3, .f32⟩ : BufTy).Contents (Elt F)),
    binary main_v3 main_v4 main_v5 (mulf : (⟨S4096x64x3, .f32⟩ : BufTy).Contents (Elt F) → (⟨S4096x64x3, .f32⟩ : BufTy).Contents (Elt F) → (⟨S4096x64x3, .f32⟩ : BufTy).Contents (Elt F)),
    unary main_v0 main_v6 (broadcastInDim S4096x64x3 ![0, 1, 2] bcast_S4096x1x3_S4096x64x3_0_1_2 : (⟨S4096x1x3, .f32⟩ : BufTy).Contents (Elt F) → (⟨S4096x64x3, .f32⟩ : BufTy).Contents (Elt F)),
    binary main_v6 main_v5 main_v7 (addf : (⟨S4096x64x3, .f32⟩ : BufTy).Contents (Elt F) → (⟨S4096x64x3, .f32⟩ : BufTy).Contents (Elt F) → (⟨S4096x64x3, .f32⟩ : BufTy).Contents (Elt F)),
    TRef.binary (TRef.of (T := ⟨S4096x3, .f32⟩) main_arg1) (TRef.of (T := ⟨S4096x3, .f32⟩) main_arg1) (TRef.of (T := ⟨S4096x3, .f32⟩) main_call0_v0) mulf,
    TRef.nullary (TRef.of (T := ⟨S_, .f32⟩) main_call0_cst) (constant S_ .f32 0x00000000#32),
    TRef.binary (TRef.of (T := ⟨S4096x3, .f32⟩) main_call0_v0) (TRef.of (T := ⟨S_, .f32⟩) main_call0_cst) (TRef.of (T := ⟨S4096, .f32⟩) main_call0_v1) (fun x v => Host.reduceAdd x v reducesTo_S4096x3_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v8) Host.sqrt,
    nullary main_cst (constant S_ .f32 0x2B8CBCCC#32),
    unary main_cst main_v9 (broadcastInDim S4096x1 ![] bcast_S_S4096x1 : (⟨S_, .f32⟩ : BufTy).Contents (Elt F) → (⟨S4096x1, .f32⟩ : BufTy).Contents (Elt F)),
    binary main_v8 main_v9 main_v10 (maximumf : (⟨S4096x1, .f32⟩ : BufTy).Contents (Elt F) → (⟨S4096x1, .f32⟩ : BufTy).Contents (Elt F) → (⟨S4096x1, .f32⟩ : BufTy).Contents (Elt F)),
    unary main_v10 main_v11 (broadcastInDim S4096x3 ![0, 1] bcast_S4096x1_S4096x3_0_1 : (⟨S4096x1, .f32⟩ : BufTy).Contents (Elt F) → (⟨S4096x3, .f32⟩ : BufTy).Contents (Elt F)),
    binary main_arg1 main_v11 main_v12 (Host.divf : (⟨S4096x3, .f32⟩ : BufTy).Contents (Elt F) → (⟨S4096x3, .f32⟩ : BufTy).Contents (Elt F) → (⟨S4096x3, .f32⟩ : BufTy).Contents (Elt F)),
    reshape main_arg3 main_v13 (rfl : (.i1 : EltTy) = .i1) shapeCasts_S32x32x32_S32768,
    unary main_v13 main_v14 (uitofp .f32 : (⟨S32768, .i1⟩ : BufTy).Contents (Elt F) → (⟨S32768, .f32⟩ : BufTy).Contents (Elt F)),
    reshape main_v7 main_v15 (rfl : (.f32 : EltTy) = .f32) shapeCasts_S4096x64x3_S262144x3,
    unary main_v15 main_v16 ((transpose S3x262144 [1, 0] · transposes_S262144x3_S3x262144_1_0) : (⟨S262144x3, .f32⟩ : BufTy).Contents (Elt F) → (⟨S3x262144, .f32⟩ : BufTy).Contents (Elt F)) ]

/-- The host operations of stretch 1. -/
abbrev ops1 : List (HloOp τ sig (Elt F)) :=
  [ reshape main_v17 main_v18 (rfl : (.f32 : EltTy) = .f32) shapeCasts_S262144_S4096x64,
    reshape main_arg4 main_v19 (rfl : (.f32 : EltTy) = .f32) shapeCasts_S30_S1x30,
    unary main_v19 main_v20 (broadcastInDim S3x30 ![0, 1] bcast_S1x30_S3x30_0_1 : (⟨S1x30, .f32⟩ : BufTy).Contents (Elt F) → (⟨S3x30, .f32⟩ : BufTy).Contents (Elt F)),
    reshape main_v20 main_v21 (rfl : (.f32 : EltTy) = .f32) shapeCasts_S3x30_S90,
    reshape main_v21 main_v22 (rfl : (.f32 : EltTy) = .f32) shapeCasts_S90_S1x90,
    unary main_v7 main_v23 ((extractStridedSlice S4096x64x1 ![0, 0, 0] · slices_S4096x64x3_S4096x64x1_0_0_0) : (⟨S4096x64x3, .f32⟩ : BufTy).Contents (Elt F) → (⟨S4096x64x1, .f32⟩ : BufTy).Contents (Elt F)),
    reshape main_v23 main_v24 (rfl : (.f32 : EltTy) = .f32) shapeCasts_S4096x64x1_S4096x64,
    unary main_v7 main_v25 ((extractStridedSlice S4096x64x1 ![0, 0, 1] · slices_S4096x64x3_S4096x64x1_0_0_1) : (⟨S4096x64x3, .f32⟩ : BufTy).Contents (Elt F) → (⟨S4096x64x1, .f32⟩ : BufTy).Contents (Elt F)),
    reshape main_v25 main_v26 (rfl : (.f32 : EltTy) = .f32) shapeCasts_S4096x64x1_S4096x64,
    unary main_v7 main_v27 ((extractStridedSlice S4096x64x1 ![0, 0, 2] · slices_S4096x64x3_S4096x64x1_0_0_2) : (⟨S4096x64x3, .f32⟩ : BufTy).Contents (Elt F) → (⟨S4096x64x1, .f32⟩ : BufTy).Contents (Elt F)),
    reshape main_v27 main_v28 (rfl : (.f32 : EltTy) = .f32) shapeCasts_S4096x64x1_S4096x64,
    unary main_arg5 main_v29 ((extractStridedSlice S90x64 ![0, 0] · slices_S180x64_S90x64_0_0) : (⟨S180x64, .f32⟩ : BufTy).Contents (Elt F) → (⟨S90x64, .f32⟩ : BufTy).Contents (Elt F)),
    unary main_arg5 main_v30 ((extractStridedSlice S90x64 ![90, 0] · slices_S180x64_S90x64_90_0) : (⟨S180x64, .f32⟩ : BufTy).Contents (Elt F) → (⟨S90x64, .f32⟩ : BufTy).Contents (Elt F)),
    reshape main_arg6 main_v31 (rfl : (.f32 : EltTy) = .f32) shapeCasts_S64_S1x64,
    reshape main_arg8 main_v32 (rfl : (.f32 : EltTy) = .f32) shapeCasts_S64_S1x64,
    unary main_arg9 main_v33 ((extractStridedSlice S64x64 ![0, 0] · slices_S244x64_S64x64_0_0) : (⟨S244x64, .f32⟩ : BufTy).Contents (Elt F) → (⟨S64x64, .f32⟩ : BufTy).Contents (Elt F)),
    unary main_arg9 main_v34 ((extractStridedSlice S90x64 ![64, 0] · slices_S244x64_S90x64_64_0) : (⟨S244x64, .f32⟩ : BufTy).Contents (Elt F) → (⟨S90x64, .f32⟩ : BufTy).Contents (Elt F)),
    unary main_arg9 main_v35 ((extractStridedSlice S90x64 ![154, 0] · slices_S244x64_S90x64_154_0) : (⟨S244x64, .f32⟩ : BufTy).Contents (Elt F) → (⟨S90x64, .f32⟩ : BufTy).Contents (Elt F)),
    reshape main_arg10 main_v36 (rfl : (.f32 : EltTy) = .f32) shapeCasts_S64_S1x64,
    reshape main_arg12 main_v37 (rfl : (.f32 : EltTy) = .f32) shapeCasts_S3_S1x3,
    reshape main_arg13 main_v38 (rfl : (.f32 : EltTy) = .f32) shapeCasts_S64x1_S1x64,
    reshape main_arg14 main_v39 (rfl : (.f32 : EltTy) = .f32) shapeCasts_S1_S1x1 ]

/-- The host operations of stretch 2. -/
abbrev ops2 : List (HloOp τ sig (Elt F)) :=
  [ reshape main_v40_0 main_v41 (rfl : (.f32 : EltTy) = .f32) shapeCasts_S4096x64_S4096x64x1 ]

/-- The program: stretch 0, the SparseCore call, stretch 1, the TensorCore call, stretch 2. -/
theorem main_eq (d : Dev nD) : main (F := F) d =
    (seq ops0 >>= fun _ => (K (F := F)).run d 0 >>= fun _ => seq ops1 >>= fun _ =>
      Prog.op (.customCall (SparseCore.inner (Pipeline.entry 0)) ()) fun _ => seq ops2 >>= fun _ => pure ⟨⟩) := rfl

/-- The buffers stretch 0 writes. -/
abbrev ops0_W : List (Ref sig .tc) := [main_v0, main_v1, main_v2, main_v3, main_v4, main_v5, main_v6, main_v7, main_call0_v0, main_call0_cst, main_call0_v1, main_call0_v2, main_v8, main_cst, main_v9, main_v10, main_v11, main_v12, main_v13, main_v14, main_v15, main_v16]

/-- Every operation of stretch 0 writes one of them. -/
theorem ops0_writes : (ops0 : List (HloOp τ sig (Elt F))).Forall fun op => op.writes ⊆ (ops0_W.map (Proc.devRef (τ := τ) .tc)).toFinset := by
  simp only [List.Forall, nullary_writes, unary_writes, binary_writes, reshape_writes, TRef.unary, TRef.binary, TRef.nullary, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- Stretch 0 touches TensorCore buffers only. -/
theorem ops0_tc : (ops0 : List (HloOp τ sig (Elt F))).Forall fun op => op.bufs ⊆ tcRefs τ sig := by
  exact ⟨unary_bufs_sub .., unary_bufs_sub .., unary_bufs_sub .., unary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub .., reshape_bufs_sub .., unary_bufs_sub ..⟩

/-- Stretch 0 allocates nothing. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- A buffer that stretch 0 does not write keeps its contents through it. -/
theorem ops0_keep (W : Valuation τ sig (Elt F)) (r : Ref sig .tc) (h : r ∉ ops0_W) :
    after ops0 W (Proc.devRef .tc r) = W (Proc.devRef .tc r) :=
  after_of_writes_sub ops0 _ ops0_writes h

/-- The buffers stretch 1 writes. -/
abbrev ops1_W : List (Ref sig .tc) := [main_v18, main_v19, main_v20, main_v21, main_v22, main_v23, main_v24, main_v25, main_v26, main_v27, main_v28, main_v29, main_v30, main_v31, main_v32, main_v33, main_v34, main_v35, main_v36, main_v37, main_v38, main_v39]

/-- Every operation of stretch 1 writes one of them. -/
theorem ops1_writes : (ops1 : List (HloOp τ sig (Elt F))).Forall fun op => op.writes ⊆ (ops1_W.map (Proc.devRef (τ := τ) .tc)).toFinset := by
  simp only [List.Forall, nullary_writes, unary_writes, binary_writes, reshape_writes, TRef.unary, TRef.binary, TRef.nullary, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- Stretch 1 touches TensorCore buffers only. -/
theorem ops1_tc : (ops1 : List (HloOp τ sig (Elt F))).Forall fun op => op.bufs ⊆ tcRefs τ sig := by
  exact ⟨reshape_bufs_sub .., reshape_bufs_sub .., unary_bufs_sub .., reshape_bufs_sub .., reshape_bufs_sub .., unary_bufs_sub .., reshape_bufs_sub .., unary_bufs_sub .., reshape_bufs_sub .., unary_bufs_sub .., reshape_bufs_sub .., unary_bufs_sub .., unary_bufs_sub .., reshape_bufs_sub .., reshape_bufs_sub .., unary_bufs_sub .., unary_bufs_sub .., unary_bufs_sub .., reshape_bufs_sub .., reshape_bufs_sub .., reshape_bufs_sub .., reshape_bufs_sub ..⟩

/-- Stretch 1 allocates nothing. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- A buffer that stretch 1 does not write keeps its contents through it. -/
theorem ops1_keep (W : Valuation τ sig (Elt F)) (r : Ref sig .tc) (h : r ∉ ops1_W) :
    after ops1 W (Proc.devRef .tc r) = W (Proc.devRef .tc r) :=
  after_of_writes_sub ops1 _ ops1_writes h

/-- The buffers stretch 2 writes. -/
abbrev ops2_W : List (Ref sig .tc) := [main_v41]

/-- Every operation of stretch 2 writes one of them. -/
theorem ops2_writes : (ops2 : List (HloOp τ sig (Elt F))).Forall fun op => op.writes ⊆ (ops2_W.map (Proc.devRef (τ := τ) .tc)).toFinset := by
  simp only [List.Forall, nullary_writes, unary_writes, binary_writes, reshape_writes, TRef.unary, TRef.binary, TRef.nullary, Finset.singleton_subset_iff, List.mem_toFinset]
  exact List.mem_map_of_mem (by decide)

/-- Stretch 2 touches TensorCore buffers only. -/
theorem ops2_tc : (ops2 : List (HloOp τ sig (Elt F))).Forall fun op => op.bufs ⊆ tcRefs τ sig := by
  exact reshape_bufs_sub ..

/-- Stretch 2 allocates nothing. -/
theorem ops2_fresh : (ops2 : List (HloOp τ sig (Elt F))).Forall fun op => op.fresh = ∅ :=
  rfl

/-- A buffer that stretch 2 does not write keeps its contents through it. -/
theorem ops2_keep (W : Valuation τ sig (Elt F)) (r : Ref sig .tc) (h : r ∉ ops2_W) :
    after ops2 W (Proc.devRef .tc r) = W (Proc.devRef .tc r) :=
  after_of_writes_sub ops2 _ ops2_writes h

/-! ## The buffers' contents along the run -/

variable (m : (ℓ : Loc nD τ sig) → Buf (Elt F) ℓ) (d : Dev nD)

/-- At the SparseCore call. -/
def Va : Valuation τ sig (Elt F) := after ops0 (launchContents m d)

/-- The coordinates the SparseCore call reads. -/
def cpA : S3x262144.Idx → F .f32 := Va m d (Proc.devRef .tc main_v16)

/-- The grid the SparseCore call reads. -/
def cgA : S32768.Idx → F .f32 := Va m d (Proc.devRef .tc main_v14)

/-- After the SparseCore call: its output is the mask. -/
def Vb : Valuation τ sig (Elt F) :=
  Function.update (Va m d) (Proc.devRef .tc main_v17) (maskAt (cpA m d) (cgA m d))

/-- At the TensorCore call. -/
def Vc : Valuation τ sig (Elt F) := after ops1 (Vb m d)

/-- The TensorCore call's proof data at its entry contents. -/
abbrev datsA : (p : Fin 1) → (c : Dev nD) → Pipeline.Dat τ (Elt F) (HIx 1) ℕ UU ℕ cfg1 c :=
  dats fun c b => Vc m c (Proc.devRef .tc b)

/-- After the TensorCore call. -/
def Vd : Valuation τ sig (Elt F) := Pipeline.afterRegion (datsA m 0 d) (Vc m d)

/-- At the end. -/
def Ve : Valuation τ sig (Elt F) := after ops2 (Vd m d)

/-- A device buffer that is not scoped is among those the program holds throughout. -/
theorem ops_uc {ops : List (HloOp τ sig (Elt F))} (h : ops.Forall fun op => op.bufs ⊆ tcRefs τ sig) :
    ∀ op ∈ ops, op.bufs ⊆ Pipeline.ucRefs τ sig :=
  fun op ho => Pipeline.sub_ucRefs op (List.forall_iff_forall_mem.mp h op ho)

end Cert.Proof.K

end

end
-- ==== Proof.Region.lean ====
/-
  The TensorCore call as a region of the program: entered from the device's buffers at their contents before the call,
  left with its two outputs at what the pipeline writes back and every other buffer as it was.
-/
module

public import proofs.«01_k».proof.Proof.Host

@[expose] public section

set_option maxRecDepth 16384

noncomputable section

namespace Cert.Proof.K

open Cert.KernelIdeal Cert.KernelIdeal.Gen

open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI Idealize.SL.BI.BIBase Idealize.SL.BI.Laws Idealize.SL.ProofMode Idealize.SL.Sem
open Idealize.ShloMosaic.Rounds

variable {F : FTy → Type} [FloatOps F] [Named F]

/-- The TensorCore call has no prefetched table: its one admissible choice. -/
abbrev adm : (p : Fin 1) → (pcfgs (F := F) p).Adm := fun p => (cfgs p).toPCfg_adm

/-- The staging cells of the call are distinct. -/
theorem phinj : Function.Injective (Pipeline.cellOf (nD := nD) (τ := τ) (Pipeline.pin (pcfgs (F := F)) adm)) :=
  (launch1.toP (Val := Elt F)).cellOf_inj adm

/-- No window's array is scoped. -/
theorem arr_unscoped : ∀ w, (Pipeline.arrRef spec1 w).isScoped = false := by decide

/-- The windows' arrays are among the buffers the program holds throughout. -/
theorem arr_sub : Pipeline.arrRefs (τ := τ) spec1 ⊆ Pipeline.ucRefs τ sig :=
  Pipeline.arrRefs_sub_ucRefs spec1 arr_unscoped

variable (m : (ℓ : Loc nD τ sig) → Buf (Elt F) ℓ)

/-- What the TensorCore holds of its waits once it owes nothing. -/
abbrev idle (d : Dev nD) : sProp (MT nD τ sig (HIx 1) (Elt F) ℕ UU ℕ) :=
  iprop(∃ W, ⌜(K (F := F)).WBelow (T d) W 8⌝ ∗ owes (T d) (0 : CellTallies nD τ sig (HIx 1)) W)

/-- The TensorCore call, from the buffers before it to the buffers after it. -/
def region : Pipeline.RegionSeg (Name := ℕ) (U := UU) (Lvl := ℕ) (pcfgs (F := F)) adm (datsA m) (none : HIx 1) defs₀ 𝒱₀
    (K (F := F)).L (K (F := F)).lev 0 where
  win := launch1.win.to₀
  block_pos := block_pos1
  stage_whole := stage_whole1
  K := PEmpty
  osem k := k.elim
  ho := Pipeline.OwnSemFacts.none _
  hbody c := (body_obligation (fun c b => Vc m c (Proc.devRef .tc b)) c).loose
  hwaits c := Pipeline.hwaits_of_owed_zero (pcfgs (F := F)) adm (datsA m) none _ _ 0 (fun _ _ => rfl) c
  pre c := iprop(held (c.tc : Thread nD τ) (Pipeline.ucRefs τ sig) (Vc m c) ∗ idle c)
  post c := iprop(held (c.tc : Thread nD τ) (Pipeline.ucRefs τ sig) (Vd m c) ∗ idle c)
  X _ := iprop(emp)
  Y _ := iprop(emp)
  Z c := held (c.tc : Thread nD τ) (Pipeline.ucRefs τ sig \ Pipeline.arrRefs spec1) (Vc m c)
  hentry c := by
    rw [Pipeline.ownSems0_none, Pipeline.prefHeld_of_none _ rfl,
      Pipeline.arrays_held (pcfgs (F := F)) adm (datsA m) 0 launch1.toP c ((datsA m 0 c).share_full fun _ => rfl) _ (Vc m c) (fun w => A_eq _ c w),
      held_sub_split (c.tc : Thread nD τ) arr_sub (Vc m c)]
    iintro ⟨⟨⟨Ha, Hr⟩, HO⟩, -, -⟩
    imodintro
    isplitl [Ha]; · iexact Ha
    isplitr; · iempintro
    isplitl [HO]
    · unfold Pipeline.Dat.owesAt Pipeline.owesWithin Pipeline.Dat.bound
      icases HO with ⟨%W, %hW, HO⟩; iexists W; isplitr
      · ipureintro; exact fun p hp => Or.inl (hW p hp)
      iexact HO
    isplitr; · iempintro
    iexact Hr
  hin c := by
    show _ ⊢ Pipeline.scopedRest spec1 c
    iintro ⟨-, -, Hr⟩
    iexact Hr
  hout c := by
    rw [Pipeline.ownSems0_none]
    show Pipeline.scopedRest spec1 c ⊢ iprop(emp ∗ emp ∗ Pipeline.scopedRest spec1 c)
    iintro Hr
    isplitr; · iempintro
    isplitr; · iempintro
    iexact Hr
  hexit c := by
    rw [Pipeline.arrays_held (pcfgs (F := F)) adm (datsA m) 0 launch1.toP c ((datsA m 0 c).share_full fun _ => rfl) _ (Vd m c)
        (fun w => (Pipeline.afterRegion_arr (datsA m 0 c) (Vc m c) winFacts1.arr_inj w).symm),
      held_sub_split (c.tc : Thread nD τ) arr_sub (Vd m c),
      held_congr (c.tc : Thread nD τ) (S := Pipeline.ucRefs τ sig \ Pipeline.arrRefs spec1) (V := Vd m c) (V' := Vc m c)
        (Pipeline.afterRegion_off (datsA m 0 c) (Vc m c) _)]
    iintro ⟨Ha, HO, -, Hr⟩
    imodintro
    isplitl [Ha Hr]
    · isplitl [Ha]; · iexact Ha
      iexact Hr
    unfold Pipeline.Dat.owesAt Pipeline.owesWithin Pipeline.Dat.bound
    icases HO with ⟨%W, %hW, HO⟩; iexists W; isplitr
    · ipureintro
      intro p hp
      rcases hW hp with h | h
      · exact h
      · obtain ⟨w, s, rfl⟩ := h
        exact Nat.zero_le _
    iexact HO

end Cert.Proof.K

end

end
-- ==== Proof.Run.lean ====
/-
  The program's run: the host's first stretch, the SparseCore call, the second stretch, the TensorCore call and the last
  reshape, and what every execution leaves in the device's buffers.
-/
module

public import proofs.«01_k».proof.Proof.Region
public import Idealize.ShloMosaic.Lib.SparseCore.Quiescent

@[expose] public section

set_option maxRecDepth 16384

noncomputable section

namespace Cert.Proof.K

open Cert.KernelIdeal Cert.KernelIdeal.Gen

open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI Idealize.SL.BI.BIBase Idealize.SL.BI.Laws Idealize.SL.ProofMode Idealize.SL.Sem
open Idealize.ShloMosaic.Rounds

variable {F : FTy → Type} [FloatOps F] [Named F]

local notation "𝕄K" => MT nD τ sig (HIx 1) (Elt F) ℕ UU ℕ

variable (m : (ℓ : Loc nD τ sig) → Buf (Elt F) ℓ) (ρ : Dev nD → PrngReg)

/-! ## The launch's ghost state -/

/-- The handshakes' cells and tokens, and the staging cells' and their transfers'. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- A device's share of the staging cells' ghost state. -/
def Gd (d : Dev nD) : sProp 𝕄K :=
  iprop(Pipeline.cellsGhost (Pipeline.pin (pcfgs (F := F)) adm) EP 0 d ∗ Pipeline.toksInit (Pipeline.pin (pcfgs (F := F)) adm) EP 0 d)

/-- There is one TensorCore call. -/
theorem one_pipe (Φ : Fin 1 → sProp 𝕄K) : (bigSep Finset.univ fun p => Φ p) = Φ 0 := by
  rw [show (Finset.univ : Finset (Fin 1)) = {0} from rfl, bigSep_singleton]

/-- The SparseCore call's threads take nothing from the launch. -/
theorem no_x (cp : Dev nD → S3x262144.Idx → F .f32) (cg : Dev nD → S32768.Idx → F .f32) :
    (bigSep Finset.univ fun thr : Thread nD τ => bigSep Finset.univ fun q : Fin 1 => (P cp cg).x q thr : sProp 𝕄K) = iprop(emp) :=
  (bigSep_congr fun thr _ => (one_pipe (fun q => (P cp cg).x q thr)).trans rfl).trans (bigSep_emp_const _)

/-- The launch element is the handshakes' and each device's share. -/
theorem hu₀ : (ownU (u₀ (F := F)) : sProp 𝕄K)
    ⊢ |={Set.univ}=> iprop(BI.own (EH (initOf (K (F := F)).hsCells (K (F := F)).hsToks)) ∗ (bigSep Finset.univ fun d : Dev nD => Gd d)
        ∗ bigSep Finset.univ fun thr : Thread nD τ => bigSep Finset.univ fun q : Fin 1 => (P (cpA m) (cgA m)).x q thr) := by
  unfold u₀ Gd
  iintro Hu
  ihave H := (ownU_pair _ _) $$ Hu
  icases H with ⟨HH, HK⟩
  ihave H := (own_pair_emb embR _ _) $$ HK
  icases H with ⟨HP, -⟩
  imod (Pipeline.fund_ghost (Pipeline.pin (pcfgs (F := F)) adm) EP phinj) $$ HP with ⟨Hc, Ht⟩
  imodintro
  isplitl [HH]; · iexact HH
  isplitl [Hc Ht]
  · rw [bigSep_sep']
    isplitl [Hc]
    · iapply (Entails.of_eq (bigSep_congr fun d _ => one_pipe (fun p => Pipeline.cellsGhost (Pipeline.pin (pcfgs (F := F)) adm) EP p d))); iexact Hc
    · iapply (Entails.of_eq (bigSep_congr fun d _ => one_pipe (fun p => Pipeline.toksInit (Pipeline.pin (pcfgs (F := F)) adm) EP p d))); iexact Ht
  · iapply (Entails.of_eq (no_x (cpA m) (cgA m)).symm)
    iempintro

/-! ## The buffers of the SparseCore call -/

/-- The SparseCore call's three arrays. -/
abbrev scRefs : Finset (DevRef τ sig) :=
  {Proc.devRef .tc main_v16, Proc.devRef .tc main_v14, Proc.devRef .tc main_v17}

/-- They are held throughout. -/
theorem scRefs_sub : scRefs ⊆ Pipeline.ucRefs τ sig := by
  intro b hb
  simp only [Finset.mem_insert, Finset.mem_singleton] at hb
  rcases hb with rfl | rfl | rfl <;> exact Pipeline.devRef_mem_ucRefs (by decide)

/-- Held, they are the three arrays' points-to facts. -/
theorem held_sc (d : Dev nD) (W : Valuation τ sig (Elt F)) :
    (held (T d) scRefs W : sProp 𝕄K)
      = iprop((pLoc d ↦{fullShare} W (Proc.devRef .tc main_v16)) ∗ (gLoc d ↦{fullShare} W (Proc.devRef .tc main_v14))
          ∗ (oLoc d ↦{fullShare} W (Proc.devRef .tc main_v17))) := by
  unfold held
  rw [SparseCore.bigSep_insert' (by decide), SparseCore.bigSep_insert' (by decide), bigSep_singleton]

/-- The mask's array after the call. -/
theorem Vb_mask (d : Dev nD) : Vb m d (Proc.devRef .tc main_v17) = maskAt (cpA m d) (cgA m d) := Function.update_self ..

/-- Every other buffer is as before the call. -/
theorem Vb_off (d : Dev nD) (b : DevRef τ sig) (h : b ≠ Proc.devRef .tc main_v17) : Vb m d b = Va m d b :=
  Function.update_of_ne h ..

/-- The three arrays at the call. -/
theorem held_before (d : Dev nD) : (held (T d) scRefs (Va m d) : sProp 𝕄K)
    = iprop((pLoc d ↦{fullShare} cpA m d) ∗ (gLoc d ↦{fullShare} cgA m d) ∗ (oLoc d ↦{fullShare} Va m d (Proc.devRef .tc main_v17))) :=
  held_sc d (Va m d)

/-- The three arrays after it. -/
theorem held_after (d : Dev nD) : (held (T d) scRefs (Vb m d) : sProp 𝕄K)
    = iprop((pLoc d ↦{fullShare} cpA m d) ∗ (gLoc d ↦{fullShare} cgA m d) ∗ (oLoc d ↦{fullShare} maskAt (cpA m d) (cgA m d))) := by
  rw [held_sc, Vb_mask, Vb_off m d _ (by decide), Vb_off m d _ (by decide)]
  rfl

/-! ## The TensorCore's program -/

/-- What the TensorCore ends with: every buffer held throughout, at its final contents. -/
abbrev FIN (d : Dev nD) : sProp 𝕄K := held (T d) (Pipeline.ucRefs τ sig) (Ve m d)

/-- What the TensorCore holds of the handshakes after the only call, its waits apart. -/
def tcIdle (d : Dev nD) : sProp 𝕄K := iprop((idle (F := F) d -∗ (K (F := F)).tcSt EH d 1))

/-- After the only call the TensorCore owes nothing. -/
theorem tcSt_idle (d : Dev nD) : ((K (F := F)).tcSt EH d 1 : sProp 𝕄K) ⊢ iprop(idle (F := F) d ∗ tcIdle d) := by
  unfold tcIdle SparseCore.Cfg.tcSt
  rw [(K (F := F)).Otc_end d (n := 1) (Nat.le_refl 1)]
  iintro ⟨HW, Hr⟩
  isplitl [HW]; · iexact HW
  iintro HW
  isplitl [HW]; · iexact HW
  iexact Hr

/-- What the TensorCore call is entered from. -/
theorem region_pre (d : Dev nD) : (region m).pre d = iprop(held (T d) (Pipeline.ucRefs τ sig) (Vc m d) ∗ idle (F := F) d) := rfl

/-- What it is left with. -/
theorem region_post (d : Dev nD) : (region m).post d = iprop(held (T d) (Pipeline.ucRefs τ sig) (Vd m d) ∗ idle (F := F) d) := rfl

/-- The TensorCore's program, from what the launch deals it to every buffer at its final contents. -/
theorem hmain (κ : GSem nD τ sig → ℕ) (d : Dev nD) :
    iprop((K (F := F)).ctx EH (P (cpA m) (cgA m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd Gd
  rw [main_eq]
  iintro ⟨#Hctx, Hst, ⟨Hb, HV, Hts, -⟩, Hc, Ht⟩
  ihave HV := (Entails.of_eq (Pipeline.unscopedBufs_held d (launchContents m d))) $$ HV
  ihave #Hlev := ((K (F := F)).ctx_levAts κ) $$ Hctx
  iapply (wp_seq (defs := (K (F := F)).defs (D (F := F))) 𝒱 (bd := none) (E := Set.univ) d (Pipeline.ucRefs τ sig) _ ops0 (ops_uc ops0_tc) (List.forall_iff_forall_mem.mp ops0_fresh) (launchContents m d)) $$ [Hb HV]
  · isplitl [Hb] <;> iassumption
  iintro ⟨Hb, HV⟩
  ihave HV := (Entails.of_eq (show held (T d) (Pipeline.ucRefs τ sig) (after ops0 (launchContents m d)) = iprop(held (T d) scRefs (Va m d) ∗ held (T d) (Pipeline.ucRefs τ sig \ scRefs) (Va m d)) from held_sub_split (T d) scRefs_sub (Va m d))) $$ HV
  icases HV with ⟨H3, HR⟩
  ihave H3 := (Entails.of_eq (held_before m d)) $$ H3
  ihave H3 := (deal (cpA m) (cgA m) d (Va m d (Proc.devRef .tc main_v17))) $$ H3
  icases H3 with ⟨Hk, Hgo⟩
  rw [wp_bind]
  iapply ((K (F := F)).wp_run (D (F := F)) 𝒱 (EH := EH) (P := P (cpA m) (cgA m)) κ d 0) $$ [Hst Hgo HR Hb Hts Hk Hc Ht]
  isplitr; · iexact Hctx
  isplitl [Hst]; · iexact Hst
  isplitl [Hgo]; · iexact Hgo
  iintro ⟨Hst, Hdn⟩
  ihave H3 := (gather (cpA m) (cgA m) d) $$ [Hk Hdn]
  · isplitl [Hk] <;> iassumption
  ihave H3 := (Entails.of_eq (held_after m d).symm) $$ H3
  ihave HR := (Entails.of_eq (held_congr (T d) (S := Pipeline.ucRefs τ sig \ scRefs) (V := Va m d) (V' := Vb m d) fun b hb =>
    (Vb_off m d b fun e => (Finset.mem_sdiff.mp hb).2 (by rw [e]; decide)).symm)) $$ HR
  ihave HV := (Entails.of_eq (held_sub_split (T d) scRefs_sub (Vb m d)).symm) $$ [H3 HR]
  · isplitl [H3] <;> iassumption
  iapply (wp_seq (defs := (K (F := F)).defs (D (F := F))) 𝒱 (bd := none) (E := Set.univ) d (Pipeline.ucRefs τ sig) _ ops1 (ops_uc ops1_tc) (List.forall_iff_forall_mem.mp ops1_fresh) (Vb m d)) $$ [Hb HV]
  · isplitl [Hb] <;> iassumption
  iintro ⟨Hb, HV⟩
  ihave Hst := (Entails.of_eq (show ((K (F := F)).tcSt EH d ((0 : Fin 1).val + 1) : sProp 𝕄K) = (K (F := F)).tcSt EH d 1 from rfl)) $$ Hst
  ihave Hst := (tcSt_idle d) $$ Hst
  icases Hst with ⟨HO, Hst⟩
  rw [show (Prog.op (TpuEff.customCall (SparseCore.inner (Pipeline.entry (0 : Fin 1))) ()) fun _ => seq ops2 >>= fun _ => pure ⟨⟩ :
      Prog (TpuEff nD τ sig (Elt F) _ .tc) PUnit)
    = (SparseCore.liftProg (Prog.op (TpuEff.customCall (Pipeline.entry (0 : Fin 1)) ()) fun _ => Prog.ret PUnit.unit)) >>= fun _ => seq ops2 >>= fun _ => pure ⟨⟩ from rfl, wp_bind]
  iapply ((K (F := F)).wp_liftProg (D (F := F)) 𝒱 (T d) Set.univ none _ _)
  iapply (Pipeline.RegionSeg.wp (pcfgs (F := F)) adm (datsA m) none phinj EP defs₀ 𝒱₀ _ _ (region m) d none (fun u hu => nomatch hu)) $$ [Hb HV HO Hst Hts Hc Ht]
  isplitl [Hst Hts]
  · iintro ⟨Hb, Hpost⟩
    ihave Hpost := (Entails.of_eq (region_post m d)) $$ Hpost
    icases Hpost with ⟨HV, HO⟩
    rw [wp_ret]; imodintro
    iapply (wp_seq (defs := (K (F := F)).defs (D (F := F))) 𝒱 (bd := none) (E := Set.univ) d (Pipeline.ucRefs τ sig) _ ops2 (ops_uc ops2_tc) (List.forall_iff_forall_mem.mp ops2_fresh) (Vd m d)) $$ [Hb HV]
    · isplitl [Hb] <;> iassumption
    iintro ⟨Hb, HV⟩
    rw [wp_pure]; imodintro
    isplitl [Hst HO]
    · unfold tcIdle; iapply Hst; iexact HO
    isplitl [HV]; · iexact HV
    isplitl [Hb] <;> iassumption
  isplitl [Hb]; · iexact Hb
  isplitl [HV HO]
  · iapply (Entails.of_eq (region_pre m d).symm)
    isplitl [HV]; · iexact HV
    iexact HO
  isplitr; · iexact Hlev
  isplitl [Hc] <;> iassumption

/-! ## The run -/

/-- The final memory, read at every buffer that is not scoped. -/
def fq (d : Dev nD) (s' : Phys nD τ sig (Elt F)) : Prop :=
  ∀ b : Ref sig .tc, b.isScoped = false → s'.mem.mem ((SparseCore.T d : Thread nD τ).loc b) = Ve m d (Proc.devRef .tc b)

/-- What the TensorCore ends with gives the final memory. -/
theorem hfin (d : Dev nD) (s' : Phys nD τ sig (Elt F)) : iprop(FIN m d ∗ SI s') ⊢ (⌜fq m d s'⌝ : sProp 𝕄K) := by
  refine Entails.trans (forall_intro fun b => ?_) pure_forall.2
  refine Entails.trans (forall_intro fun hb => ?_) pure_forall.2
  rw [show (FIN m d : sProp 𝕄K) = iprop(held (T d) {Proc.devRef .tc b} (Ve m d) ∗ held (T d) (Pipeline.ucRefs τ sig \ {Proc.devRef .tc b}) (Ve m d)) from
    held_sub_split (T d) (Finset.singleton_subset_iff.mpr (Pipeline.devRef_mem_ucRefs hb)) (Ve m d)]
  iintro ⟨⟨Hb, -⟩, HSI⟩
  ihave Hb := (Entails.of_eq (show (held (T d) {Proc.devRef .tc b} (Ve m d) : sProp 𝕄K) = iprop((SparseCore.T d : Thread nD τ).loc b ↦{fullShare} Ve m d (Proc.devRef .tc b)) from by
    unfold held; rw [bigSep_singleton])) $$ Hb
  ihave H := (SI_pointsTo_agree (st := s') (ℓ := (SparseCore.T d : Thread nD τ).loc b) (I := Finset.univ) (q := fullShare) (f := Ve m d (Proc.devRef .tc b))) $$ [HSI Hb]
  · isplitl [HSI] <;> iassumption
  icases H with %h
  ipureintro; exact funext fun i => h i (Finset.mem_univ i)

/-- What every execution ends with: each buffer that is not scoped at its final contents, every semaphore at zero. -/
def QC : PUnit × MemSt nD τ sig (Elt F) → Prop := fun r =>
  (∀ (c : Dev nD) (b : Ref sig .tc), b.isScoped = false → r.2.mem ((SparseCore.T c : Thread nD τ).loc b) = Ve m c (Proc.devRef .tc b)) ∧ r.2.sem = fun _ => 0

/-- Every execution of the program ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (cpA m) (cgA m)) (A := ∅) facts v₀
    (fun q hq => match q with | 0 => nomatch hq)
    (fun q _ => match q with | 0 => tileObl (cpA m) (cgA m))
    (fun q _ => match q with | 0 => SparseCore.Cfg.VecSplit.of_plain (vecSplit (cpA m) (cgA m)))
    m ρ main (fun d => Gd d) (FIN m) (u₀ (F := F)) (sep_elim_left.trans (hu₀ m)) (hmain m ρ) (fq m) (hfin m) (QC m) (fun _ h hz => ⟨h, hz⟩)

end Cert.Proof.K

end

end
-- ==== Proof.Frame.lean ====
/-
  What no step of the program writes: every execution leaves the arguments as they were and every semaphore at zero.
-/
module

public import proofs.«01_k».proof.Proof.Run

@[expose] public section

set_option maxRecDepth 16384

noncomputable section

namespace Cert.Proof.K

open Cert.KernelIdeal Cert.KernelIdeal.Gen

open Idealize.ShloMosaic Idealize.ShloMosaic.TcCoe Idealize.ShloMosaic.StableHlo
open Idealize.SL Idealize.SL.Sem

variable {F : FTy → Type} [FloatOps F] [Named F]

variable (m : (ℓ : Loc nD τ sig) → Buf (Elt F) ℓ)

/-- A buffer that no step of the program writes ends at its launch contents. -/
theorem Ve_keep (d : Dev nD) (r : Ref sig .tc) (h : r ∉ ops0_W ∧ r ≠ main_v17 ∧ r ∉ ops1_W ∧ r ≠ main_v40_0 ∧ r ≠ main_v40_1 ∧ r ∉ ops2_W) :
    Ve m d (Proc.devRef .tc r) = m ((d.tc : Thread nD τ).loc r) := by
  obtain ⟨h0, hs, h1, hd, hc, h2⟩ := h
  refine (ops2_keep _ r h2).trans ((Pipeline.afterRegion_keeps (datsA m 0 d) (Vc m d) winFacts1.arr_inj (fun w => A_eq _ d w) r ?_).trans
    ((ops1_keep _ r h1).trans ((Vb_off m d _ (devRef_ne_of_ne hs)).trans (ops0_keep _ r h0))))
  intro w e
  by_contra hw
  have : ∀ w : Fin (cfg1).W, ((cfg1).win w).isOut = true → Pipeline.arrRef spec1 w = main_v40_0 ∨ Pipeline.arrRef spec1 w = main_v40_1 := by decide
  rcases this w (by simpa using hw) with h | h
  · exact hd (e.symm.trans h)
  · exact hc (e.symm.trans h)

/-- Every execution leaves the arguments as they were, and every semaphore at zero. -/
theorem args_kept {r : PUnit × MemSt nD τ sig (Elt F)} (h : QC m r) :
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14))
      ∧ r.2.sem = fun _ => 0 :=
  ⟨fun c => ⟨(h.1 c main_arg0 (by decide)).trans (Ve_keep m c main_arg0 (by decide)),
    (h.1 c main_arg1 (by decide)).trans (Ve_keep m c main_arg1 (by decide)),
    (h.1 c main_arg2 (by decide)).trans (Ve_keep m c main_arg2 (by decide)),
    (h.1 c main_arg3 (by decide)).trans (Ve_keep m c main_arg3 (by decide)),
    (h.1 c main_arg4 (by decide)).trans (Ve_keep m c main_arg4 (by decide)),
    (h.1 c main_arg5 (by decide)).trans (Ve_keep m c main_arg5 (by decide)),
    (h.1 c main_arg6 (by decide)).trans (Ve_keep m c main_arg6 (by decide)),
    (h.1 c main_arg7 (by decide)).trans (Ve_keep m c main_arg7 (by decide)),
    (h.1 c main_arg8 (by decide)).trans (Ve_keep m c main_arg8 (by decide)),
    (h.1 c main_arg9 (by decide)).trans (Ve_keep m c main_arg9 (by decide)),
    (h.1 c main_arg10 (by decide)).trans (Ve_keep m c main_arg10 (by decide)),
    (h.1 c main_arg11 (by decide)).trans (Ve_keep m c main_arg11 (by decide)),
    (h.1 c main_arg12 (by decide)).trans (Ve_keep m c main_arg12 (by decide)),
    (h.1 c main_arg13 (by decide)).trans (Ve_keep m c main_arg13 (by decide)),
    (h.1 c main_arg14 (by decide)).trans (Ve_keep m c main_arg14 (by decide))⟩, h.2⟩

end Cert.Proof.K

end

end
-- ==== Proof.WFrame.lean ====
/-
  For the kernel as printed, at words: What no step of the program writes: every execution leaves the arguments as they were and every semaphore at zero.
-/
module

public import proofs.«01_k».proof.Proof.WRun

@[expose] public section

set_option maxRecDepth 16384

noncomputable section

namespace Cert.Proof.W

open Cert.Kernel Cert.Kernel.Gen

open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- A buffer that no step of the program writes ends at its launch contents. -/
theorem Ve_keep (d : Dev nD) (r : Ref sig .tc) (h : r ∉ ops0_W ∧ r ≠ main_v17 ∧ r ∉ ops1_W ∧ r ≠ main_v40_0 ∧ r ≠ main_v40_1 ∧ r ∉ ops2_W) :
    Ve m d (Proc.devRef .tc r) = m ((d.tc : Thread nD τ).loc r) := by
  obtain ⟨h0, hs, h1, hd, hc, h2⟩ := h
  refine (ops2_keep _ r h2).trans ((Pipeline.afterRegion_keeps (datsA m 0 d) (Vc m d) winFacts1.arr_inj (fun w => A_eq _ d w) r ?_).trans
    ((ops1_keep _ r h1).trans ((Vb_off m d _ (devRef_ne_of_ne hs)).trans (ops0_keep _ r h0))))
  intro w e
  by_contra hw
  have : ∀ w : Fin (cfg1).W, ((cfg1).win w).isOut = true → Pipeline.arrRef spec1 w = main_v40_0 ∨ Pipeline.arrRef spec1 w = main_v40_1 := by decide
  rcases this w (by simpa using hw) with h | h
  · exact hd (e.symm.trans h)
  · exact hc (e.symm.trans h)

/-- Every execution leaves the arguments as they were, and every semaphore at zero. -/
theorem args_kept {r : PUnit × MemSt nD τ sig (Elt F)} (h : QC m r) :
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14))
      ∧ r.2.sem = fun _ => 0 :=
  ⟨fun c => ⟨(h.1 c main_arg0 (by decide)).trans (Ve_keep m c main_arg0 (by decide)),
    (h.1 c main_arg1 (by decide)).trans (Ve_keep m c main_arg1 (by decide)),
    (h.1 c main_arg2 (by decide)).trans (Ve_keep m c main_arg2 (by decide)),
    (h.1 c main_arg3 (by decide)).trans (Ve_keep m c main_arg3 (by decide)),
    (h.1 c main_arg4 (by decide)).trans (Ve_keep m c main_arg4 (by decide)),
    (h.1 c main_arg5 (by decide)).trans (Ve_keep m c main_arg5 (by decide)),
    (h.1 c main_arg6 (by decide)).trans (Ve_keep m c main_arg6 (by decide)),
    (h.1 c main_arg7 (by decide)).trans (Ve_keep m c main_arg7 (by decide)),
    (h.1 c main_arg8 (by decide)).trans (Ve_keep m c main_arg8 (by decide)),
    (h.1 c main_arg9 (by decide)).trans (Ve_keep m c main_arg9 (by decide)),
    (h.1 c main_arg10 (by decide)).trans (Ve_keep m c main_arg10 (by decide)),
    (h.1 c main_arg11 (by decide)).trans (Ve_keep m c main_arg11 (by decide)),
    (h.1 c main_arg12 (by decide)).trans (Ve_keep m c main_arg12 (by decide)),
    (h.1 c main_arg13 (by decide)).trans (Ve_keep m c main_arg13 (by decide)),
    (h.1 c main_arg14 (by decide)).trans (Ve_keep m c main_arg14 (by decide))⟩, h.2⟩

end Cert.Proof.W

end

end
-- ==== Proof.Frames.lean ====
/-
  The three frames and the named constants: the claims that are not about values.
-/
module

public import proofs.«01_k».proof.Defs
public import proofs.«01_k».proof.Proof.Gen.Kernel
public import proofs.«01_k».proof.Proof.Frame
public import proofs.«01_k».proof.Proof.WFrame
public import proofs.«01_k».proof.Proof.Gen.ReferenceIdeal.Run

@[expose] public section

noncomputable section

namespace Cert.Proof

open Idealize.ShloMosaic Idealize.ShloMosaic.TcCoe Idealize.SL.Sem

/-- The idealized kernel's frame. -/
theorem frame_ideal : Cert.quiescent_KernelIdeal (hKernelIdeal := Cert.KernelIdeal.Gen.facts) := fun m ρ _ =>
  (θ_run Cert.KernelIdeal.defs _ _).mono (fun _ h => K.args_kept m h) (K.run_main (F := Ideal) m ρ)

/-- The kernel's frame. -/
theorem frame_kernel : Cert.quiescent_Kernel (hKernel := Cert.Kernel.Gen.facts) := fun m ρ _ =>
  (θ_run Cert.Kernel.defs _ _).mono (fun _ h => W.args_kept m h) (W.run_main (F := Bits) m ρ)

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Each named constant is the real number its site states. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof

end

end
-- ==== Proof.Spec.lean ====
/-
  The network at one point, as plain extended-real functions: the position embedding, the layers, the density and the
  colour. Both programs' results are read down to these. Also the one scalar identity between the two programs' softplus.
-/
module

public import proofs.«01_k».proof.Defs
public import Idealize.ShloMosaic.Lib.Pointwise

@[expose] public section

set_option maxRecDepth 16384

noncomputable section

namespace Cert.Proof

open Idealize.ShloMosaic

/-- The absolute value. -/
abbrev aabs (z : EReal) : EReal := FloatOps.absf (F := Ideal) (φ := .f32) z

/-- The softplus's sharpness, 10. -/
abbrev ten : EReal := Ideal.ofBits .f32 0x41200000#32

/-- The softplus of `z / 10` of sharpness 10, from `z`: the stable form `max z 0 + log (1 + e^{-|z|})` over 10. -/
def sp (z : EReal) : EReal := Ideal.div (max z 0 + Ideal.log1p (Ideal.exp (-(aabs z)))) ten

/-- A sample point: the origin plus depth times direction. -/
def point (o d : Fin 3 → EReal) (z : EReal) (k : Fin 3) : EReal := o k + d k * z

/-- A direction over its length, the length held above a small constant. -/
def dirn (d : Fin 3 → EReal) (k : Fin 3) : EReal :=
  Ideal.div (d k) (max (Ideal.sqrt (∑ x : Fin 3, d x * d x)) (Ideal.ofBits .f32 0x2B8CBCCC#32))

/-- A word clipped to `[0, 31]` is below 32. -/
theorem clip_lt (w : BitVec 32) : (IntOp.minsi (IntOp.maxsi w 0#32) 31#32).toNat < 32 := by
  simp only [IntOp.minsi, IntOp.maxsi, BitVec.slt, BitVec.sle]
  have h := w.isLt
  split <;> split <;> simp_all [BitVec.toInt] <;> split at * <;> omega

/-- Clipping with the bounds written first is the same. -/
theorem clip_comm (w : BitVec 32) : IntOp.minsi 31#32 (IntOp.maxsi 0#32 w) = IntOp.minsi (IntOp.maxsi w 0#32) 31#32 := by
  apply BitVec.eq_of_toNat_eq
  simp only [IntOp.minsi, IntOp.maxsi, BitVec.slt]
  have h := w.isLt
  split <;> split <;> split <;> split <;> simp_all [BitVec.toInt] <;> split at * <;> omega

/-- A word below 32 is its own signed value, and not negative. -/
theorem small_signed (w : BitVec 32) (h : w.toNat < 32) : w.toInt.toNat = w.toNat ∧ IntOp.cmpi .slt w 0#32 = 0#1 := by
  have e : w.toInt = w.toNat := by rw [BitVec.toInt_eq_toNat_cond]; split <;> omega
  refine ⟨by omega, ?_⟩
  have hs : w.slt 0#32 = false := by simp [BitVec.slt, e]
  simp only [IntOp.cmpi, hs]
  rfl

/-- The grid cell a coordinate lies in along its axis, clipped to the grid. -/
def cell (a : EReal) : BitVec 32 :=
  IntOp.minsi (IntOp.maxsi (FloatOps.fptosi (F := Ideal) (φ := .f32) 32 (Ideal.div (a + Ideal.ofBits .f32 0x40400000#32) (Ideal.ofBits .f32 0x3E400000#32))) 0#32) 31#32

/-- It is below 32. -/
theorem cell_lt (a : EReal) : (cell a).toNat < 32 := clip_lt _

/-- One lane of the position embedding: coordinate `l / 30` times frequency `l % 30`. -/
def emb (p : Fin 3 → EReal) (f : Fin 30 → EReal) (l : Fin 90) : EReal := p ⟨l.val / 30, by omega⟩ * f ⟨l.val % 30, by omega⟩

/-- The first layer at hidden unit `c`, from the embedding `e`. -/
def lay1 (W : Fin 180 → Fin 64 → EReal) (b : Fin 64 → EReal) (e : Fin 90 → EReal) (c : Fin 64) : EReal :=
  sp (ten * (∑ l : Fin 90, Ideal.sin (e l) * W ⟨l.val, by omega⟩ c + ∑ l : Fin 90, Ideal.cos (e l) * W ⟨90 + l.val, by omega⟩ c + b c))

/-- The second layer at hidden unit `c`. -/
def lay2 (W : Fin 64 → Fin 64 → EReal) (b : Fin 64 → EReal) (h : Fin 64 → EReal) (c : Fin 64) : EReal :=
  sp (ten * (∑ x : Fin 64, h x * W x c + b c))

/-- The hidden vector of a point: two layers over its position's embedding. -/
def hid (W1 : Fin 180 → Fin 64 → EReal) (b1 : Fin 64 → EReal) (W2 : Fin 64 → Fin 64 → EReal) (b2 : Fin 64 → EReal) (e : Fin 90 → EReal) (c : Fin 64) : EReal :=
  lay2 W2 b2 (lay1 W1 b1 e) c
/-- The density of the hidden vector `h`. -/
def dens (W : Fin 64 → EReal) (b : EReal) (h : Fin 64 → EReal) : EReal :=
  1 - Ideal.exp (-(sp (ten * (∑ x : Fin 64, h x * W x + b))))

/-- The colour head's hidden layer at unit `c`, from the hidden vector `h` and the direction's embedding `e`. -/
def lay3 (W : Fin 244 → Fin 64 → EReal) (b : Fin 64 → EReal) (h : Fin 64 → EReal) (e : Fin 90 → EReal) (c : Fin 64) : EReal :=
  sp (ten * (∑ x : Fin 64, h x * W ⟨x.val, by omega⟩ c
    + (∑ l : Fin 90, Ideal.sin (e l) * W ⟨64 + l.val, by omega⟩ c + ∑ l : Fin 90, Ideal.cos (e l) * W ⟨154 + l.val, by omega⟩ c + b c)))

/-- The colour's channel `k`. -/
def colr (W : Fin 64 → Fin 3 → EReal) (b : Fin 3 → EReal) (h : Fin 64 → EReal) (k : Fin 3) : EReal :=
  Ideal.div 1 (1 + Ideal.exp (-(∑ x : Fin 64, h x * W x k + b k)))

/-- `-1 / ln 2`, as the kernel names it. -/
abbrev kneg : Ideal .f32 := Named.named Cert.KernelIdeal.κ "neg_log2e" 0xBFB8AA3B#32
/-- `1 / ln 2`, as the kernel names it. -/
abbrev kinv : Ideal .f32 := Named.named Cert.KernelIdeal.κ "inv_ln2" 0x3FB8AA3B#32
/-- `ln 2`, as the kernel names it. -/
abbrev kln : Ideal .f32 := Named.named Cert.KernelIdeal.κ "ln2" 0x3F317218#32
/-- A tenth, as the kernel names it. -/
abbrev kten : Ideal .f32 := Named.named Cert.KernelIdeal.κ "tenth" 0x3DCCCCCD#32

/-- The kernel's softplus before its last scaling: base-2 exponential and logarithm, each with its change of base. -/
def spb (z : EReal) : EReal :=
  max z 0 + Ideal.log (1 + FloatOps.exp2 (F := Ideal) (φ := .f32) (aabs z * kneg))
    * kinv * kln

/-- The word of the sharpness is the number 10. -/
theorem ten_eq : ten = ((10 : ℝ) : EReal) := by
  simp [ten, Ideal.ofBits, Ideal.ieee]
  norm_cast
  norm_num

/-- The absolute value, as a maximum. -/
theorem aabs_eq (z : EReal) : aabs z = max z (-z) := rfl

/-- The kernel's softplus is the reference's: `2^{|z|·(−1/ln 2)} = e^{−|z|}`, the logarithm of a finite number loses
    nothing to the factors `1/ln 2` and `ln 2`, and a tenth is a division by 10. -/
theorem spb_tenth (z : EReal) : spb z * kten = sp z := by
  have hn : kneg = ((-((Real.log 2)⁻¹) : ℝ) : EReal) :=
    IdealRules.named_const.ideal_named_scalar _ _ _ _ rfl
  have hi : kinv = (((Real.log 2)⁻¹ : ℝ) : EReal) :=
    IdealRules.named_const.ideal_named_scalar _ _ _ _ rfl
  have hl : kln = ((Real.log 2 : ℝ) : EReal) :=
    IdealRules.named_const.ideal_named_scalar _ _ _ _ rfl
  have ht : kten = ((1 / 10 : ℝ) : EReal) :=
    IdealRules.named_const.ideal_named_scalar _ _ _ _ rfl
  have hlog : (0 : ℝ) < Real.log 2 := Real.log_pos (by norm_num)
  have habs : aabs z = ⊤ ∨ ∃ r : ℝ, aabs z = (r : EReal) := by
    rw [aabs_eq]
    induction z using EReal.rec with
    | bot => left; simp
    | top => left; simp
    | coe r => right; exact ⟨max r (-r), by norm_cast⟩
  have key : Ideal.exp2 (aabs z * ((-((Real.log 2)⁻¹) : ℝ) : EReal)) = Ideal.exp (-(aabs z)) := by
    rcases habs with h | ⟨r, h⟩
    · rw [h, EReal.top_mul_coe_of_neg (by simpa using hlog)]; rfl
    · rw [h, ← EReal.coe_mul, ← EReal.coe_neg]
      change ((Real.rpow 2 _ : ℝ) : EReal) = ((Real.exp _ : ℝ) : EReal)
      congr 1
      rw [Real.rpow_eq_pow]
      rw [Real.rpow_def_of_pos (by norm_num)]
      congr 1
      field_simp
  have fin : ∃ y : ℝ, 0 ≤ y ∧ Ideal.exp (-(aabs z)) = (y : EReal) := by
    rcases habs with h | ⟨r, h⟩
    · exact ⟨0, le_rfl, by rw [h]; rfl⟩
    · exact ⟨Real.exp (-r), (Real.exp_pos _).le, by rw [h]; rfl⟩
  obtain ⟨y, hy, hE⟩ := fin
  unfold spb sp
  rw [hn, hi, hl, ht, ten_eq, Ideal.div_coe (by norm_num)]
  change (max z 0 + Ideal.log (1 + Ideal.exp2 _) * _ * _) * _ = _
  rw [key, hE, Ideal.log1p]
  congr 2
  have : (1 : EReal) + (y : EReal) = ((1 + y : ℝ) : EReal) := by norm_cast
  rw [this, Ideal.log_coe, if_neg (by linarith), ← EReal.coe_mul, ← EReal.coe_mul]
  congr 1
  field_simp

end Cert.Proof

end

end
-- ==== Proof.PayVal.lean ====
/-
  What the TensorCore body stores, read at an index: the network of `Spec` at one point, from the blocks it loads.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.Proof.K

open Cert.KernelIdeal Cert.KernelIdeal.Gen
open Idealize.ShloMosaic

/-- The coordinate a lane of the embedding multiplies: `x` below 30, `y` below 60, else `z`. -/
def selc (x y z : EReal) (l : Fin 90) : EReal :=
  Scalar.select (IntOp.cmpi CmpIPredicate.slt (BitVec.ofNat 32 l.val) 30#32) x
    (Scalar.select (IntOp.cmpi CmpIPredicate.slt (BitVec.ofNat 32 l.val) 60#32) y z)

/-- It is the coordinate `l / 30`. -/
theorem selc_eq (p : Fin 3 → EReal) (l : Fin 90) : selc (p 0) (p 1) (p 2) l = p ⟨l.val / 30, by omega⟩ := by
  have h30 : ∀ l : Fin 90, IntOp.cmpi CmpIPredicate.slt (BitVec.ofNat 32 l.val) 30#32 = if l.val < 30 then 1#1 else 0#1 := by decide +kernel
  have h60 : ∀ l : Fin 90, IntOp.cmpi CmpIPredicate.slt (BitVec.ofNat 32 l.val) 60#32 = if l.val < 60 then 1#1 else 0#1 := by decide +kernel
  unfold selc
  rw [h30, h60]
  have hl := l.isLt
  split
  · exact congrArg p (Fin.ext (by show 0 = l.val / 30; omega))
  · split
    · exact congrArg p (Fin.ext (by show 1 = l.val / 30; omega))
    · exact congrArg p (Fin.ext (by show 2 = l.val / 30; omega))

/-- Row `a` of the merged `[64, 64]` axis is point `(a / 64, a % 64)`. -/
def rowOf (i j : Fin 64) : Fin 4096 := ⟨i.val * 64 + j.val, by omega⟩

/-- The first product: sines and cosines against their halves of the weights. -/
theorem pay5_apply (x5 : Vec Ideal S1x90 .f32) (x0 x1 x2 : Vec Ideal S64x64 .f32) (x6 x7 : Vec Ideal S90x64 .f32)
    (i j : Fin 64) (c : Fin 64) : k1_pay5 x5 x0 x1 x2 x6 x7 (ix2 (rowOf i j) c) =
      ∑ l : Fin 90, Ideal.sin (selc (x0 (ix2 i j)) (x1 (ix2 i j)) (x2 (ix2 i j)) l * x5 (ix2 0 l)) * x6 (ix2 l c)
      + ∑ l : Fin 90, Ideal.cos (selc (x0 (ix2 i j)) (x1 (ix2 i j)) (x2 (ix2 i j)) l * x5 (ix2 0 l)) * x7 (ix2 l c) := by
  have h1 : ∀ h, (⟨(rowOf i j).val / 64, h⟩ : Fin 64) = i := fun h => Fin.ext (by simp only [rowOf]; omega)
  have h2 : ∀ h, (⟨(rowOf i j).val % 64, h⟩ : Fin 64) = j := fun h => Fin.ext (by simp only [rowOf]; omega)
  pointwise [k1_pay5, k1_pay4]
  simp only [h1, h2]
  rfl

/-- The two hidden layers, the last before its scaling by a tenth. -/
theorem pay7_apply (u : FVec Ideal S4096x64 .f32) (x8 : Vec Ideal S1x64 .f32) (x9 : Vec Ideal S64x64 .f32) (x10 : Vec Ideal S1x64 .f32)
    (r : Fin 4096) (c : Fin 64) : k1_pay7 u (k1_pay6 x8) x9 x10 (ix2 r c)
      = spb (ten * (∑ x : Fin 64, sp (ten * (u (ix2 r x) + x8 (ix2 0 x))) * x9 (ix2 x c) + x10 (ix2 0 c))) := by
  simp only [← spb_tenth]
  pointwise [k1_pay7, k1_pay6]
  rfl

/-- The hidden vector. -/
theorem pay8_apply (v : FVec Ideal S4096x64 .f32) (r : Fin 4096) (c : Fin 64) :
    k1_pay8 v (Named.named κ "tenth" 0x3DCCCCCD#32) (ix2 r c) = v (ix2 r c) * kten := by
  pointwise [k1_pay8]

/-- The density. -/
theorem pay9_apply (v : FVec Ideal S4096x64 .f32) (x17 : Vec Ideal S1x64 .f32) (x18 : Vec Ideal S1x1 .f32) (x4 : Vec Ideal S64x64 .f32) (i j : Fin 64) :
    k1_pay2 (k1_pay9 v (Named.named κ "tenth" 0x3DCCCCCD#32) x17 x18) x4 (ix2 i j)
      = dens (fun x => x17 (ix2 0 x)) (x18 (ix2 0 0)) (fun x => v (ix2 (rowOf i j) x) * kten) * x4 (ix2 i j) := by
  unfold dens
  rw [← spb_tenth]
  pointwise [k1_pay2, k1_pay9, k1_pay8, k1_pay1]
  rw [zero_sub]
  rfl

/-- The colour head's hidden layer before its softplus. -/
theorem pay13_apply (x5 : Vec Ideal S1x90 .f32) (h : FVec Ideal S4096x64 .f32) (x3 : Vec Ideal S64x3 .f32)
    (x12 x13 : Vec Ideal S90x64 .f32) (x14 : Vec Ideal S1x64 .f32) (x11 : Vec Ideal S64x64 .f32) (i j c : Fin 64) :
    k1_pay13 (k1_pay4 x5) h (k1_pay10 x3) (iota .tc S64x90 32 [1] iota_S64x90_d1_w32) k1_pay11 (k1_pay12 x3) x12 x13 x14 x11 (ix3 i j c)
      = ten * (∑ x : Fin 64, h (ix2 (rowOf i j) x) * x11 (ix2 x c)
        + (∑ l : Fin 90, Ideal.sin (selc (x3 (ix2 i 0)) (x3 (ix2 i 1)) (x3 (ix2 i 2)) l * x5 (ix2 0 l)) * x12 (ix2 l c)
          + ∑ l : Fin 90, Ideal.cos (selc (x3 (ix2 i 0)) (x3 (ix2 i 1)) (x3 (ix2 i 2)) l * x5 (ix2 0 l)) * x13 (ix2 l c)
          + x14 (ix2 0 c))) := by
  pointwise [k1_pay13, k1_pay4, k1_pay10, k1_pay11, k1_pay12]
  rfl

/-- The colour. -/
theorem pay3_apply (x5 : Vec Ideal S1x90 .f32) (h : FVec Ideal S4096x64 .f32) (x3 : Vec Ideal S64x3 .f32)
    (x12 x13 : Vec Ideal S90x64 .f32) (x14 : Vec Ideal S1x64 .f32) (x11 : Vec Ideal S64x64 .f32)
    (x15 : Vec Ideal S64x3 .f32) (x16 : Vec Ideal S1x3 .f32) (x4 : Vec Ideal S64x64 .f32) (i j : Fin 64) (k : Fin 3) (y : FVec Ideal S64x64x64 .f32)
    (hy : k1_pay13 (k1_pay4 x5) h (k1_pay10 x3) (iota .tc S64x90 32 [1] iota_S64x90_d1_w32) k1_pay11 (k1_pay12 x3) x12 x13 x14 x11 = y) :
    k1_pay3 (k1_pay14 (k1_pay4 x5) h (k1_pay10 x3) (iota .tc S64x90 32 [1] iota_S64x90_d1_w32) k1_pay11 (k1_pay12 x3) x12 x13 x14 x11)
      (k1_pay15 (k1_pay4 x5) h (k1_pay10 x3) (iota .tc S64x90 32 [1] iota_S64x90_d1_w32) k1_pay11 (k1_pay12 x3) x12 x13 x14 x11) x15 x16 x4 (ix3 i j k)
      = colr (fun x k => x15 (ix2 x k)) (fun k => x16 (ix2 0 k)) (fun x => sp (y (ix3 i j x))) k * x4 (ix2 i j) := by
  unfold k1_pay14 k1_pay15 colr
  rw [hy]
  simp only [← spb_tenth]
  pointwise [k1_pay3, k1_pay1]
  rw [zero_sub]
  rfl

section
variable {x0 x1 x2 : Vec Ideal S64x64 .f32} {x3 : Vec Ideal S64x3 .f32} {x4 : Vec Ideal S64x64 .f32} {x5 : Vec Ideal S1x90 .f32} {x6 x7 : Vec Ideal S90x64 .f32}
  {x8 : Vec Ideal S1x64 .f32} {x9 : Vec Ideal S64x64 .f32} {x10 : Vec Ideal S1x64 .f32} {x11 : Vec Ideal S64x64 .f32} {x12 x13 : Vec Ideal S90x64 .f32} {x14 : Vec Ideal S1x64 .f32}
  {x15 : Vec Ideal S64x3 .f32} {x16 : Vec Ideal S1x3 .f32} {x17 : Vec Ideal S1x64 .f32} {x18 : Vec Ideal S1x1 .f32} {i j : Fin 64}
  {P D : Fin 3 → EReal} {f : Fin 30 → EReal} {W1 : Fin 180 → Fin 64 → EReal} {b1 : Fin 64 → EReal} {W2 : Fin 64 → Fin 64 → EReal} {b2 : Fin 64 → EReal}
  {W3 : Fin 244 → Fin 64 → EReal} {b3 : Fin 64 → EReal} {W4 : Fin 64 → Fin 3 → EReal} {b4 : Fin 3 → EReal} {Wd : Fin 64 → EReal} {bd : EReal}

/-- The body's hidden vector at point `(i, j)` of the block. -/
theorem hid_block (h0 : x0 (ix2 i j) = P 0) (h1 : x1 (ix2 i j) = P 1) (h2 : x2 (ix2 i j) = P 2)
    (h5 : ∀ l : Fin 90, x5 (ix2 0 l) = f ⟨l.val % 30, by omega⟩)
    (h6 : ∀ (l : Fin 90) c, x6 (ix2 l c) = W1 ⟨l.val, by omega⟩ c) (h7 : ∀ (l : Fin 90) c, x7 (ix2 l c) = W1 ⟨90 + l.val, by omega⟩ c)
    (h8 : ∀ c, x8 (ix2 0 c) = b1 c) (h9 : ∀ x c, x9 (ix2 x c) = W2 x c) (h10 : ∀ c, x10 (ix2 0 c) = b2 c) (c : Fin 64) :
    k1_pay7 (k1_pay5 x5 x0 x1 x2 x6 x7) (k1_pay6 x8) x9 x10 (ix2 (rowOf i j) c) * kten = hid W1 b1 W2 b2 (emb P f) c := by
  rw [pay7_apply, spb_tenth]
  unfold hid lay2 lay1 emb
  simp only [pay5_apply, h0, h1, h2, h5, h6, h7, h8, h9, h10, selc_eq]

/-- The body's density at point `(i, j)` of the block. -/
theorem dens_block (h0 : x0 (ix2 i j) = P 0) (h1 : x1 (ix2 i j) = P 1) (h2 : x2 (ix2 i j) = P 2)
    (h5 : ∀ l : Fin 90, x5 (ix2 0 l) = f ⟨l.val % 30, by omega⟩)
    (h6 : ∀ (l : Fin 90) c, x6 (ix2 l c) = W1 ⟨l.val, by omega⟩ c) (h7 : ∀ (l : Fin 90) c, x7 (ix2 l c) = W1 ⟨90 + l.val, by omega⟩ c)
    (h8 : ∀ c, x8 (ix2 0 c) = b1 c) (h9 : ∀ x c, x9 (ix2 x c) = W2 x c) (h10 : ∀ c, x10 (ix2 0 c) = b2 c)
    (h17 : ∀ x, x17 (ix2 0 x) = Wd x) (h18 : x18 (ix2 0 0) = bd) :
    k1_pay2 (k1_pay9 (k1_pay7 (k1_pay5 x5 x0 x1 x2 x6 x7) (k1_pay6 x8) x9 x10) (Named.named κ "tenth" 0x3DCCCCCD#32) x17 x18) x4 (ix2 i j)
      = dens Wd bd (hid W1 b1 W2 b2 (emb P f)) * x4 (ix2 i j) := by
  rw [pay9_apply]
  unfold dens
  simp only [hid_block h0 h1 h2 h5 h6 h7 h8 h9 h10, h17, h18]

/-- The body's colour at point `(i, j)` of the block, channel `k`. -/
theorem col_block (h0 : x0 (ix2 i j) = P 0) (h1 : x1 (ix2 i j) = P 1) (h2 : x2 (ix2 i j) = P 2) (h3 : ∀ k, x3 (ix2 i k) = D k)
    (h5 : ∀ l : Fin 90, x5 (ix2 0 l) = f ⟨l.val % 30, by omega⟩)
    (h6 : ∀ (l : Fin 90) c, x6 (ix2 l c) = W1 ⟨l.val, by omega⟩ c) (h7 : ∀ (l : Fin 90) c, x7 (ix2 l c) = W1 ⟨90 + l.val, by omega⟩ c)
    (h8 : ∀ c, x8 (ix2 0 c) = b1 c) (h9 : ∀ x c, x9 (ix2 x c) = W2 x c) (h10 : ∀ c, x10 (ix2 0 c) = b2 c)
    (h11 : ∀ (x : Fin 64) c, x11 (ix2 x c) = W3 ⟨x.val, by omega⟩ c)
    (h12 : ∀ (l : Fin 90) c, x12 (ix2 l c) = W3 ⟨64 + l.val, by omega⟩ c) (h13 : ∀ (l : Fin 90) c, x13 (ix2 l c) = W3 ⟨154 + l.val, by omega⟩ c)
    (h14 : ∀ c, x14 (ix2 0 c) = b3 c) (h15 : ∀ x k, x15 (ix2 x k) = W4 x k) (h16 : ∀ k, x16 (ix2 0 k) = b4 k) (k : Fin 3) :
    k1_pay3 (k1_pay14 (k1_pay4 x5) (k1_pay8 (k1_pay7 (k1_pay5 x5 x0 x1 x2 x6 x7) (k1_pay6 x8) x9 x10) (Named.named κ "tenth" 0x3DCCCCCD#32)) (k1_pay10 x3) (iota .tc S64x90 32 [1] iota_S64x90_d1_w32) k1_pay11 (k1_pay12 x3) x12 x13 x14 x11)
      (k1_pay15 (k1_pay4 x5) (k1_pay8 (k1_pay7 (k1_pay5 x5 x0 x1 x2 x6 x7) (k1_pay6 x8) x9 x10) (Named.named κ "tenth" 0x3DCCCCCD#32)) (k1_pay10 x3) (iota .tc S64x90 32 [1] iota_S64x90_d1_w32) k1_pay11 (k1_pay12 x3) x12 x13 x14 x11) x15 x16 x4 (ix3 i j k)
      = colr W4 b4 (lay3 W3 b3 (hid W1 b1 W2 b2 (emb P f)) (emb D f)) k * x4 (ix2 i j) := by
  have hH : ∀ x, k1_pay8 (k1_pay7 (k1_pay5 x5 x0 x1 x2 x6 x7) (k1_pay6 x8) x9 x10) (Named.named κ "tenth" 0x3DCCCCCD#32) (ix2 (rowOf i j) x)
      = hid W1 b1 W2 b2 (emb P f) x := fun x => (pay8_apply _ _ _).trans (hid_block h0 h1 h2 h5 h6 h7 h8 h9 h10 x)
  generalize k1_pay8 (k1_pay7 (k1_pay5 x5 x0 x1 x2 x6 x7) (k1_pay6 x8) x9 x10) (Named.named κ "tenth" 0x3DCCCCCD#32) = H at hH ⊢
  refine (pay3_apply x5 H x3 x12 x13 x14 x11 x15 x16 x4 i j k _ rfl).trans ?_
  refine congrArg (· * x4 (ix2 i j)) ?_
  have e13 : ∀ c, sp (k1_pay13 (k1_pay4 x5) H (k1_pay10 x3) (iota .tc S64x90 32 [1] iota_S64x90_d1_w32) k1_pay11 (k1_pay12 x3) x12 x13 x14 x11 (ix3 i j c))
      = lay3 W3 b3 (hid W1 b1 W2 b2 (emb P f)) (emb D f) c := by
    intro c
    refine congrArg sp ((pay13_apply x5 H x3 x12 x13 x14 x11 i j c).trans ?_)
    unfold emb
    simp only [hH, h3, h5, h11, h12, h13, h14, selc_eq]
    rfl
  unfold colr
  exact congrArg (fun z => Ideal.div 1 (1 + Ideal.exp (-z))) (congrArg₂ (· + ·) (Finset.sum_congr rfl fun x _ => congrArg₂ (· * ·) (e13 x) (h15 x k)) (h16 k))

end

end Cert.Proof.K

end

end
-- ==== Proof.Out.lean ====
/-
  The region's output arrays, read at an index: what the body leaves, at the point whose block holds the index, from the
  input windows' blocks; and each input window's block, read at an index of its array.
-/
module

public import proofs.«01_k».proof.Proof.TcBody
public import proofs.«01_k».proof.Proof.PayVal
public import Idealize.ShloMosaic.Lib.Pipeline.Value

@[expose] public section

set_option maxRecDepth 16384

noncomputable section

namespace Cert.Proof.K

open Cert.KernelIdeal Cert.KernelIdeal.Gen
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-- The point whose block holds row `r`. -/
def ptOf (r : Fin 4096) : Fin cfg1.N := ⟨r.val / 64, by have := r.isLt; show r.val / 64 < 64; omega⟩
/-- Row `r` inside its block. -/
def inRow (r : Fin 4096) : Fin 64 := ⟨r.val % 64, by omega⟩

/-- Window 0's index map: block row `t`. -/
theorem index0 : ∀ t : Fin cfg1.N, win1_0.index t = ![t.val, 0] := (by decide +kernel : ∀ t : Fin grid1.N, win1_0.index t = ![t.val, 0])

/-- Window 0's block at row `r`'s point, read at that row. -/
theorem iblk0 (r : Fin 4096) (p : Fin 64) : iblk V c 0 (ptOf r) (ix2 (inRow r) p) = V c main_v24 (ix2 r p) := by
  show V c main_v24 ((win1_0.rect (ptOf r)).emb (ix2 (inRow r) p)) = _
  refine congrArg (V c main_v24) (funext fun a => Fin.ext ?_)
  refine (Window.rect_emb_val win1_0 (ptOf r) (ix2 (inRow r) p) a).trans ?_
  rw [index0]
  match a with
  | ⟨0, _⟩ => show r.val / 64 * 64 + r.val % 64 = r.val; omega
  | ⟨1, _⟩ => show 0 * 64 + p.val = p.val; omega

/-- Window 1's index map: block row `t`. -/
theorem index1 : ∀ t : Fin cfg1.N, win1_1.index t = ![t.val, 0] := (by decide +kernel : ∀ t : Fin grid1.N, win1_1.index t = ![t.val, 0])

/-- Window 1's block at row `r`'s point, read at that row. -/
theorem iblk1 (r : Fin 4096) (p : Fin 64) : iblk V c 1 (ptOf r) (ix2 (inRow r) p) = V c main_v26 (ix2 r p) := by
  show V c main_v26 ((win1_1.rect (ptOf r)).emb (ix2 (inRow r) p)) = _
  refine congrArg (V c main_v26) (funext fun a => Fin.ext ?_)
  refine (Window.rect_emb_val win1_1 (ptOf r) (ix2 (inRow r) p) a).trans ?_
  rw [index1]
  match a with
  | ⟨0, _⟩ => show r.val / 64 * 64 + r.val % 64 = r.val; omega
  | ⟨1, _⟩ => show 0 * 64 + p.val = p.val; omega

/-- Window 2's index map: block row `t`. -/
theorem index2 : ∀ t : Fin cfg1.N, win1_2.index t = ![t.val, 0] := (by decide +kernel : ∀ t : Fin grid1.N, win1_2.index t = ![t.val, 0])

/-- Window 2's block at row `r`'s point, read at that row. -/
theorem iblk2 (r : Fin 4096) (p : Fin 64) : iblk V c 2 (ptOf r) (ix2 (inRow r) p) = V c main_v28 (ix2 r p) := by
  show V c main_v28 ((win1_2.rect (ptOf r)).emb (ix2 (inRow r) p)) = _
  refine congrArg (V c main_v28) (funext fun a => Fin.ext ?_)
  refine (Window.rect_emb_val win1_2 (ptOf r) (ix2 (inRow r) p) a).trans ?_
  rw [index2]
  match a with
  | ⟨0, _⟩ => show r.val / 64 * 64 + r.val % 64 = r.val; omega
  | ⟨1, _⟩ => show 0 * 64 + p.val = p.val; omega

/-- Window 3's index map: block row `t`. -/
theorem index3 : ∀ t : Fin cfg1.N, win1_3.index t = ![t.val, 0] := (by decide +kernel : ∀ t : Fin grid1.N, win1_3.index t = ![t.val, 0])

/-- Window 3's block at row `r`'s point, read at that row. -/
theorem iblk3 (r : Fin 4096) (p : Fin 3) : iblk V c 3 (ptOf r) (ix2 (inRow r) p) = V c main_v12 (ix2 r p) := by
  show V c main_v12 ((win1_3.rect (ptOf r)).emb (ix2 (inRow r) p)) = _
  refine congrArg (V c main_v12) (funext fun a => Fin.ext ?_)
  refine (Window.rect_emb_val win1_3 (ptOf r) (ix2 (inRow r) p) a).trans ?_
  rw [index3]
  match a with
  | ⟨0, _⟩ => show r.val / 64 * 64 + r.val % 64 = r.val; omega
  | ⟨1, _⟩ => show 0 * 3 + p.val = p.val; omega

/-- Window 4's index map: block row `t`. -/
theorem index4 : ∀ t : Fin cfg1.N, win1_4.index t = ![t.val, 0] := (by decide +kernel : ∀ t : Fin grid1.N, win1_4.index t = ![t.val, 0])

/-- Window 4's block at row `r`'s point, read at that row. -/
theorem iblk4 (r : Fin 4096) (p : Fin 64) : iblk V c 4 (ptOf r) (ix2 (inRow r) p) = V c main_v18 (ix2 r p) := by
  show V c main_v18 ((win1_4.rect (ptOf r)).emb (ix2 (inRow r) p)) = _
  refine congrArg (V c main_v18) (funext fun a => Fin.ext ?_)
  refine (Window.rect_emb_val win1_4 (ptOf r) (ix2 (inRow r) p) a).trans ?_
  rw [index4]
  match a with
  | ⟨0, _⟩ => show r.val / 64 * 64 + r.val % 64 = r.val; omega
  | ⟨1, _⟩ => show 0 * 64 + p.val = p.val; omega

/-- Window 5's index map: always block 0. -/
theorem index5 : ∀ t : Fin cfg1.N, ∀ a, win1_5.index t a = 0 := (by decide +kernel : ∀ t : Fin grid1.N, ∀ a, win1_5.index t a = 0)

/-- Window 5's block is its whole array. -/
theorem iblk5 (t : Fin cfg1.N) : iblk V c 5 t = V c main_v22 := by
  funext y
  show V c main_v22 ((win1_5.rect t).emb y) = _
  exact congrArg (V c main_v22) (funext fun a => Fin.ext (Window.rect_emb_val_of_index_zero _ _ _ (index5 t a) _))

/-- Window 6's index map: always block 0. -/
theorem index6 : ∀ t : Fin cfg1.N, ∀ a, win1_6.index t a = 0 := (by decide +kernel : ∀ t : Fin grid1.N, ∀ a, win1_6.index t a = 0)

/-- Window 6's block is its whole array. -/
theorem iblk6 (t : Fin cfg1.N) : iblk V c 6 t = V c main_v29 := by
  funext y
  show V c main_v29 ((win1_6.rect t).emb y) = _
  exact congrArg (V c main_v29) (funext fun a => Fin.ext (Window.rect_emb_val_of_index_zero _ _ _ (index6 t a) _))

/-- Window 7's index map: always block 0. -/
theorem index7 : ∀ t : Fin cfg1.N, ∀ a, win1_7.index t a = 0 := (by decide +kernel : ∀ t : Fin grid1.N, ∀ a, win1_7.index t a = 0)

/-- Window 7's block is its whole array. -/
theorem iblk7 (t : Fin cfg1.N) : iblk V c 7 t = V c main_v30 := by
  funext y
  show V c main_v30 ((win1_7.rect t).emb y) = _
  exact congrArg (V c main_v30) (funext fun a => Fin.ext (Window.rect_emb_val_of_index_zero _ _ _ (index7 t a) _))

/-- Window 8's index map: always block 0. -/
theorem index8 : ∀ t : Fin cfg1.N, ∀ a, win1_8.index t a = 0 := (by decide +kernel : ∀ t : Fin grid1.N, ∀ a, win1_8.index t a = 0)

/-- Window 8's block is its whole array. -/
theorem iblk8 (t : Fin cfg1.N) : iblk V c 8 t = V c main_v31 := by
  funext y
  show V c main_v31 ((win1_8.rect t).emb y) = _
  exact congrArg (V c main_v31) (funext fun a => Fin.ext (Window.rect_emb_val_of_index_zero _ _ _ (index8 t a) _))

/-- Window 9's index map: always block 0. -/
theorem index9 : ∀ t : Fin cfg1.N, ∀ a, win1_9.index t a = 0 := (by decide +kernel : ∀ t : Fin grid1.N, ∀ a, win1_9.index t a = 0)

/-- Window 9's block is its whole array. -/
theorem iblk9 (t : Fin cfg1.N) : iblk V c 9 t = V c main_arg7 := by
  funext y
  show V c main_arg7 ((win1_9.rect t).emb y) = _
  exact congrArg (V c main_arg7) (funext fun a => Fin.ext (Window.rect_emb_val_of_index_zero _ _ _ (index9 t a) _))

/-- Window 10's index map: always block 0. -/
theorem index10 : ∀ t : Fin cfg1.N, ∀ a, win1_10.index t a = 0 := (by decide +kernel : ∀ t : Fin grid1.N, ∀ a, win1_10.index t a = 0)

/-- Window 10's block is its whole array. -/
theorem iblk10 (t : Fin cfg1.N) : iblk V c 10 t = V c main_v32 := by
  funext y
  show V c main_v32 ((win1_10.rect t).emb y) = _
  exact congrArg (V c main_v32) (funext fun a => Fin.ext (Window.rect_emb_val_of_index_zero _ _ _ (index10 t a) _))

/-- Window 11's index map: always block 0. -/
theorem index11 : ∀ t : Fin cfg1.N, ∀ a, win1_11.index t a = 0 := (by decide +kernel : ∀ t : Fin grid1.N, ∀ a, win1_11.index t a = 0)

/-- Window 11's block is its whole array. -/
theorem iblk11 (t : Fin cfg1.N) : iblk V c 11 t = V c main_v33 := by
  funext y
  show V c main_v33 ((win1_11.rect t).emb y) = _
  exact congrArg (V c main_v33) (funext fun a => Fin.ext (Window.rect_emb_val_of_index_zero _ _ _ (index11 t a) _))

/-- Window 12's index map: always block 0. -/
theorem index12 : ∀ t : Fin cfg1.N, ∀ a, win1_12.index t a = 0 := (by decide +kernel : ∀ t : Fin grid1.N, ∀ a, win1_12.index t a = 0)

/-- Window 12's block is its whole array. -/
theorem iblk12 (t : Fin cfg1.N) : iblk V c 12 t = V c main_v34 := by
  funext y
  show V c main_v34 ((win1_12.rect t).emb y) = _
  exact congrArg (V c main_v34) (funext fun a => Fin.ext (Window.rect_emb_val_of_index_zero _ _ _ (index12 t a) _))

/-- Window 13's index map: always block 0. -/
theorem index13 : ∀ t : Fin cfg1.N, ∀ a, win1_13.index t a = 0 := (by decide +kernel : ∀ t : Fin grid1.N, ∀ a, win1_13.index t a = 0)

/-- Window 13's block is its whole array. -/
theorem iblk13 (t : Fin cfg1.N) : iblk V c 13 t = V c main_v35 := by
  funext y
  show V c main_v35 ((win1_13.rect t).emb y) = _
  exact congrArg (V c main_v35) (funext fun a => Fin.ext (Window.rect_emb_val_of_index_zero _ _ _ (index13 t a) _))

/-- Window 14's index map: always block 0. -/
theorem index14 : ∀ t : Fin cfg1.N, ∀ a, win1_14.index t a = 0 := (by decide +kernel : ∀ t : Fin grid1.N, ∀ a, win1_14.index t a = 0)

/-- Window 14's block is its whole array. -/
theorem iblk14 (t : Fin cfg1.N) : iblk V c 14 t = V c main_v36 := by
  funext y
  show V c main_v36 ((win1_14.rect t).emb y) = _
  exact congrArg (V c main_v36) (funext fun a => Fin.ext (Window.rect_emb_val_of_index_zero _ _ _ (index14 t a) _))

/-- Window 15's index map: always block 0. -/
theorem index15 : ∀ t : Fin cfg1.N, ∀ a, win1_15.index t a = 0 := (by decide +kernel : ∀ t : Fin grid1.N, ∀ a, win1_15.index t a = 0)

/-- Window 15's block is its whole array. -/
theorem iblk15 (t : Fin cfg1.N) : iblk V c 15 t = V c main_arg11 := by
  funext y
  show V c main_arg11 ((win1_15.rect t).emb y) = _
  exact congrArg (V c main_arg11) (funext fun a => Fin.ext (Window.rect_emb_val_of_index_zero _ _ _ (index15 t a) _))

/-- Window 16's index map: always block 0. -/
theorem index16 : ∀ t : Fin cfg1.N, ∀ a, win1_16.index t a = 0 := (by decide +kernel : ∀ t : Fin grid1.N, ∀ a, win1_16.index t a = 0)

/-- Window 16's block is its whole array. -/
theorem iblk16 (t : Fin cfg1.N) : iblk V c 16 t = V c main_v37 := by
  funext y
  show V c main_v37 ((win1_16.rect t).emb y) = _
  exact congrArg (V c main_v37) (funext fun a => Fin.ext (Window.rect_emb_val_of_index_zero _ _ _ (index16 t a) _))

/-- Window 17's index map: always block 0. -/
theorem index17 : ∀ t : Fin cfg1.N, ∀ a, win1_17.index t a = 0 := (by decide +kernel : ∀ t : Fin grid1.N, ∀ a, win1_17.index t a = 0)

/-- Window 17's block is its whole array. -/
theorem iblk17 (t : Fin cfg1.N) : iblk V c 17 t = V c main_v38 := by
  funext y
  show V c main_v38 ((win1_17.rect t).emb y) = _
  exact congrArg (V c main_v38) (funext fun a => Fin.ext (Window.rect_emb_val_of_index_zero _ _ _ (index17 t a) _))

/-- Window 18's index map: always block 0. -/
theorem index18 : ∀ t : Fin cfg1.N, ∀ a, win1_18.index t a = 0 := (by decide +kernel : ∀ t : Fin grid1.N, ∀ a, win1_18.index t a = 0)

/-- Window 18's block is its whole array. -/
theorem iblk18 (t : Fin cfg1.N) : iblk V c 18 t = V c main_v39 := by
  funext y
  show V c main_v39 ((win1_18.rect t).emb y) = _
  exact congrArg (V c main_v39) (funext fun a => Fin.ext (Window.rect_emb_val_of_index_zero _ _ _ (index18 t a) _))

/-- Output window 19's index map: block row `t`. -/
theorem index19 : ∀ t : Fin cfg1.N, win1_19.index t = ![t.val, 0] := (by decide +kernel : ∀ t : Fin grid1.N, win1_19.index t = ![t.val, 0])

/-- Distinct points write distinct blocks of output window 19. -/
theorem disjoint19 : ∀ t t' : Fin cfg1.N, (cfg1.win 19).flush t = true → (cfg1.win 19).flush t' = true → t ≠ t' →
    Disjoint ((cfg1.win 19).blk t).view.set ((cfg1.win 19).blk t').view.set :=
  fun t t' _ _ hne => (cfg1.win 19).disjoint_blk fun h => hne (by
    have h0 : win1_19.index t 0 = win1_19.index t' 0 := congrFun h 0
    rw [index19, index19] at h0
    exact Fin.ext h0)

/-- Output window 19's final array, read at an index: what the body leaves at the row's point. -/
theorem arr19 (r : Fin 4096) (p : Fin 64) : (dats V 0 c).arrAt 19 cfg1.N (ix2 r p) =
    out1_19 (iblk V c 0 (ptOf r)) (iblk V c 1 (ptOf r)) (iblk V c 2 (ptOf r)) (iblk V c 3 (ptOf r)) (iblk V c 4 (ptOf r)) (iblk V c 5 (ptOf r)) (iblk V c 6 (ptOf r)) (iblk V c 7 (ptOf r)) (iblk V c 8 (ptOf r)) (iblk V c 9 (ptOf r)) (iblk V c 10 (ptOf r)) (iblk V c 11 (ptOf r)) (iblk V c 12 (ptOf r)) (iblk V c 13 (ptOf r)) (iblk V c 14 (ptOf r)) (iblk V c 15 (ptOf r)) (iblk V c 16 (ptOf r)) (iblk V c 17 (ptOf r)) (iblk V c 18 (ptOf r)) (ix2 (inRow r) p) := by
  have h := (dats V 0 c).arrAt_emb_eq_flushed 19 disjoint19 (ptOf r) (flush1_19 _) (ix2 (inRow r) p)
  rw [show ((cfg1.win 19).blk (ptOf r)).view.emb (ix2 (inRow r) p) = ix2 r p from ?_] at h
  · refine h.trans ?_
    show (dats V 0 c).after 19 (ptOf r) (ix2 (inRow r) p) = _
    rw [after1_19]
  · show (win1_19.rect (ptOf r)).emb (ix2 (inRow r) p) = ix2 r p
    refine funext fun a => Fin.ext ?_
    refine (Window.rect_emb_val win1_19 (ptOf r) (ix2 (inRow r) p) a).trans ?_
    rw [index19]
    match a with
    | ⟨0, _⟩ => show r.val / 64 * 64 + r.val % 64 = r.val; omega
    | ⟨1, _⟩ => show 0 * 64 + p.val = p.val; omega

/-- Output window 20's index map: block row `t`. -/
theorem index20 : ∀ t : Fin cfg1.N, win1_20.index t = ![t.val, 0, 0] := (by decide +kernel : ∀ t : Fin grid1.N, win1_20.index t = ![t.val, 0, 0])

/-- Distinct points write distinct blocks of output window 20. -/
theorem disjoint20 : ∀ t t' : Fin cfg1.N, (cfg1.win 20).flush t = true → (cfg1.win 20).flush t' = true → t ≠ t' →
    Disjoint ((cfg1.win 20).blk t).view.set ((cfg1.win 20).blk t').view.set :=
  fun t t' _ _ hne => (cfg1.win 20).disjoint_blk fun h => hne (by
    have h0 : win1_20.index t 0 = win1_20.index t' 0 := congrFun h 0
    rw [index20, index20] at h0
    exact Fin.ext h0)

/-- Output window 20's final array, read at an index: what the body leaves at the row's point. -/
theorem arr20 (r : Fin 4096) (p : Fin 64) (k : Fin 3) : (dats V 0 c).arrAt 20 cfg1.N (ix3 r p k) =
    out1_20 (iblk V c 0 (ptOf r)) (iblk V c 1 (ptOf r)) (iblk V c 2 (ptOf r)) (iblk V c 3 (ptOf r)) (iblk V c 4 (ptOf r)) (iblk V c 5 (ptOf r)) (iblk V c 6 (ptOf r)) (iblk V c 7 (ptOf r)) (iblk V c 8 (ptOf r)) (iblk V c 9 (ptOf r)) (iblk V c 10 (ptOf r)) (iblk V c 11 (ptOf r)) (iblk V c 12 (ptOf r)) (iblk V c 13 (ptOf r)) (iblk V c 14 (ptOf r)) (iblk V c 15 (ptOf r)) (iblk V c 16 (ptOf r)) (iblk V c 17 (ptOf r)) (iblk V c 18 (ptOf r)) (ix3 (inRow r) p k) := by
  have h := (dats V 0 c).arrAt_emb_eq_flushed 20 disjoint20 (ptOf r) (flush1_20 _) (ix3 (inRow r) p k)
  rw [show ((cfg1.win 20).blk (ptOf r)).view.emb (ix3 (inRow r) p k) = ix3 r p k from ?_] at h
  · refine h.trans ?_
    show (dats V 0 c).after 20 (ptOf r) (ix3 (inRow r) p k) = _
    rw [after1_20]
  · show (win1_20.rect (ptOf r)).emb (ix3 (inRow r) p k) = ix3 r p k
    refine funext fun a => Fin.ext ?_
    refine (Window.rect_emb_val win1_20 (ptOf r) (ix3 (inRow r) p k) a).trans ?_
    rw [index20]
    match a with
    | ⟨0, _⟩ => show r.val / 64 * 64 + r.val % 64 = r.val; omega
    | ⟨1, _⟩ => show 0 * 64 + p.val = p.val; omega
    | ⟨2, _⟩ => show 0 * 3 + k.val = k.val; omega

end Cert.Proof.K

end

end
-- ==== Proof.HostVal.lean ====
/-
  The host operations around the kernel calls, read at an index, over the extended reals.
-/
module

public import proofs.«01_k».proof.Proof.Out
public import proofs.«01_k».proof.Proof.Run
public import Idealize.ShloMosaic.Lib.Pointwise

@[expose] public section

noncomputable section

namespace Cert.Proof.K

open Cert.KernelIdeal Cert.KernelIdeal.Gen
open Idealize.ShloMosaic Idealize.ShloMosaic.TcCoe Idealize.ShloMosaic.StableHlo
open Idealize.ShloMosaic.SparseCore (S V T)

variable (W : Valuation τ sig (Elt Ideal))

set_option maxRecDepth 16384
set_option maxHeartbeats 2000000

/-- Coordinate 0 of the sample points, as the TensorCore call takes it. -/
theorem host24 (r : Fin 4096) (p : Fin 64) :
    (after ops1 W (Proc.devRef .tc main_v24) (ix2 r p) : EReal) = W (Proc.devRef .tc main_v7) (ix3 r p 0) := by
  simp only [ops1, TRef.binary, TRef.nullary, TRef.unary, TRef.toBuf, TRef.ofBuf, cast_eq]
  after_results_simp
  pointwise []

/-- Coordinate 1 of the sample points, as the TensorCore call takes it. -/
theorem host26 (r : Fin 4096) (p : Fin 64) :
    (after ops1 W (Proc.devRef .tc main_v26) (ix2 r p) : EReal) = W (Proc.devRef .tc main_v7) (ix3 r p 1) := by
  simp only [ops1, TRef.binary, TRef.nullary, TRef.unary, TRef.toBuf, TRef.ofBuf, cast_eq]
  after_results_simp
  pointwise []

/-- Coordinate 2 of the sample points, as the TensorCore call takes it. -/
theorem host28 (r : Fin 4096) (p : Fin 64) :
    (after ops1 W (Proc.devRef .tc main_v28) (ix2 r p) : EReal) = W (Proc.devRef .tc main_v7) (ix3 r p 2) := by
  simp only [ops1, TRef.binary, TRef.nullary, TRef.unary, TRef.toBuf, TRef.ofBuf, cast_eq]
  after_results_simp
  pointwise []

/-- The mask, as the TensorCore call takes it. -/
theorem host18 (r : Fin 4096) (p : Fin 64) :
    (after ops1 W (Proc.devRef .tc main_v18) (ix2 r p) : EReal) = W (Proc.devRef .tc main_v17) (ix1 ⟨r.val * 64 + p.val, by omega⟩) := by
  simp only [ops1, TRef.binary, TRef.nullary, TRef.unary, TRef.toBuf, TRef.ofBuf, cast_eq]
  after_results_simp
  pointwise []

/-- The frequencies, tiled. -/
theorem host22 (l : Fin 90) :
    (after ops1 W (Proc.devRef .tc main_v22) (ix2 0 l) : EReal) = W (Proc.devRef .tc main_arg4) (ix1 ⟨l.val % 30, by omega⟩) := by
  simp only [ops1, TRef.binary, TRef.nullary, TRef.unary, TRef.toBuf, TRef.ofBuf, cast_eq]
  after_results_simp
  pointwise []

/-- Rows 0 to 90 of a weight. -/
theorem host29 (l : Fin 90) (c : Fin 64) :
    (after ops1 W (Proc.devRef .tc main_v29) (ix2 l c) : EReal) = W (Proc.devRef .tc main_arg5) (ix2 ⟨l.val, by omega⟩ c) := by
  simp only [ops1, TRef.binary, TRef.nullary, TRef.unary, TRef.toBuf, TRef.ofBuf, cast_eq]
  after_results_simp
  pointwise []

/-- Rows 90 to 180 of a weight. -/
theorem host30 (l : Fin 90) (c : Fin 64) :
    (after ops1 W (Proc.devRef .tc main_v30) (ix2 l c) : EReal) = W (Proc.devRef .tc main_arg5) (ix2 ⟨90 + l.val, by omega⟩ c) := by
  simp only [ops1, TRef.binary, TRef.nullary, TRef.unary, TRef.toBuf, TRef.ofBuf, cast_eq]
  after_results_simp
  pointwise []

/-- Rows 0 to 64 of a weight. -/
theorem host33 (l : Fin 64) (c : Fin 64) :
    (after ops1 W (Proc.devRef .tc main_v33) (ix2 l c) : EReal) = W (Proc.devRef .tc main_arg9) (ix2 ⟨l.val, by omega⟩ c) := by
  simp only [ops1, TRef.binary, TRef.nullary, TRef.unary, TRef.toBuf, TRef.ofBuf, cast_eq]
  after_results_simp
  pointwise []

/-- Rows 64 to 154 of a weight. -/
theorem host34 (l : Fin 90) (c : Fin 64) :
    (after ops1 W (Proc.devRef .tc main_v34) (ix2 l c) : EReal) = W (Proc.devRef .tc main_arg9) (ix2 ⟨64 + l.val, by omega⟩ c) := by
  simp only [ops1, TRef.binary, TRef.nullary, TRef.unary, TRef.toBuf, TRef.ofBuf, cast_eq]
  after_results_simp
  pointwise []

/-- Rows 154 to 244 of a weight. -/
theorem host35 (l : Fin 90) (c : Fin 64) :
    (after ops1 W (Proc.devRef .tc main_v35) (ix2 l c) : EReal) = W (Proc.devRef .tc main_arg9) (ix2 ⟨154 + l.val, by omega⟩ c) := by
  simp only [ops1, TRef.binary, TRef.nullary, TRef.unary, TRef.toBuf, TRef.ofBuf, cast_eq]
  after_results_simp
  pointwise []

/-- A bias as a row. -/
theorem host31 (c : Fin 64) :
    (after ops1 W (Proc.devRef .tc main_v31) (ix2 0 c) : EReal) = W (Proc.devRef .tc main_arg6) (ix1 c) := by
  simp only [ops1, TRef.binary, TRef.nullary, TRef.unary, TRef.toBuf, TRef.ofBuf, cast_eq]
  after_results_simp
  pointwise []

/-- A bias as a row. -/
theorem host32 (c : Fin 64) :
    (after ops1 W (Proc.devRef .tc main_v32) (ix2 0 c) : EReal) = W (Proc.devRef .tc main_arg8) (ix1 c) := by
  simp only [ops1, TRef.binary, TRef.nullary, TRef.unary, TRef.toBuf, TRef.ofBuf, cast_eq]
  after_results_simp
  pointwise []

/-- A bias as a row. -/
theorem host36 (c : Fin 64) :
    (after ops1 W (Proc.devRef .tc main_v36) (ix2 0 c) : EReal) = W (Proc.devRef .tc main_arg10) (ix1 c) := by
  simp only [ops1, TRef.binary, TRef.nullary, TRef.unary, TRef.toBuf, TRef.ofBuf, cast_eq]
  after_results_simp
  pointwise []

/-- The last colour bias as a row. -/
theorem host37 (k : Fin 3) :
    (after ops1 W (Proc.devRef .tc main_v37) (ix2 0 k) : EReal) = W (Proc.devRef .tc main_arg12) (ix1 k) := by
  simp only [ops1, TRef.binary, TRef.nullary, TRef.unary, TRef.toBuf, TRef.ofBuf, cast_eq]
  after_results_simp
  pointwise []

/-- The density weight as a row. -/
theorem host38 (x : Fin 64) :
    (after ops1 W (Proc.devRef .tc main_v38) (ix2 0 x) : EReal) = W (Proc.devRef .tc main_arg13) (ix2 x 0) := by
  simp only [ops1, TRef.binary, TRef.nullary, TRef.unary, TRef.toBuf, TRef.ofBuf, cast_eq]
  after_results_simp
  pointwise []

/-- The density bias. -/
theorem host39  :
    (after ops1 W (Proc.devRef .tc main_v39) (ix2 0 0) : EReal) = W (Proc.devRef .tc main_arg14) (ix1 0) := by
  simp only [ops1, TRef.binary, TRef.nullary, TRef.unary, TRef.toBuf, TRef.ofBuf, cast_eq]
  after_results_simp
  pointwise []

/-- The first result as the program returns it. -/
theorem host41 (r : Fin 4096) (p : Fin 64) :
    (after ops2 W (Proc.devRef .tc main_v41) (ix3 r p 0) : EReal) = W (Proc.devRef .tc main_v40_0) (ix2 r p) := by
  simp only [ops2, TRef.binary, TRef.nullary, TRef.unary, TRef.toBuf, TRef.ofBuf, cast_eq]
  after_results_simp
  pointwise []

/-- The sample points. -/
theorem host7 (r : Fin 4096) (p : Fin 64) (k : Fin 3) :
    (after ops0 W (Proc.devRef .tc main_v7) (ix3 r p k) : EReal) = point (fun k => W (Proc.devRef .tc main_arg0) (ix2 r k)) (fun k => W (Proc.devRef .tc main_arg1) (ix2 r k)) (W (Proc.devRef .tc main_arg2) (ix2 r p)) k := by
  simp only [ops0, TRef.binary, TRef.nullary, TRef.unary, TRef.toBuf, TRef.ofBuf, cast_eq]
  after_results_simp
  simp only [point]
  pointwise []

/-- The directions, normalised. -/
theorem host12 (r : Fin 4096) (k : Fin 3) :
    (after ops0 W (Proc.devRef .tc main_v12) (ix2 r k) : EReal) = dirn (fun k => W (Proc.devRef .tc main_arg1) (ix2 r k)) k := by
  simp only [ops0, TRef.binary, TRef.nullary, TRef.unary, TRef.toBuf, TRef.ofBuf, cast_eq]
  after_results_simp
  simp only [dirn]
  pointwise []

/-- The sample points, a row for each coordinate. -/
theorem host16 (k : Fin 3) (i : Fin 262144) :
    (after ops0 W (Proc.devRef .tc main_v16) (ix2 k i) : EReal) = point (fun k => W (Proc.devRef .tc main_arg0) (ix2 ⟨i.val / 64, by omega⟩ k)) (fun k => W (Proc.devRef .tc main_arg1) (ix2 ⟨i.val / 64, by omega⟩ k)) (W (Proc.devRef .tc main_arg2) (ix2 ⟨i.val / 64, by omega⟩ ⟨i.val % 64, by omega⟩)) k := by
  simp only [ops0, TRef.binary, TRef.nullary, TRef.unary, TRef.toBuf, TRef.ofBuf, cast_eq]
  after_results_simp
  simp only [point]
  pointwise []

/-- The grid as numbers, flat. -/
theorem host14 (i : Fin 32768) :
    (after ops0 W (Proc.devRef .tc main_v14) (ix1 i) : EReal) = FloatOps.uitofp (F := Ideal) .f32 (W (Proc.devRef .tc main_arg3) (ix3 ⟨i.val / 1024, by omega⟩ ⟨i.val / 32 % 32, by omega⟩ ⟨i.val % 32, by omega⟩)) := by
  simp only [ops0, TRef.binary, TRef.nullary, TRef.unary, TRef.toBuf, TRef.ofBuf, cast_eq]
  after_results_simp
  pointwise []

end Cert.Proof.K

end

end
-- ==== Proof.KerVal.lean ====
/-
  The kernel's two results at a point of a ray: the network of `Spec` at that point, times the mask's entry.
-/
module

public import proofs.«01_k».proof.Proof.HostVal
public import proofs.«01_k».proof.Proof.PayVal
public import proofs.«01_k».proof.Proof.Frame

@[expose] public section

set_option maxRecDepth 16384
set_option maxHeartbeats 400000

noncomputable section

namespace Cert.Proof.K

open Cert.KernelIdeal Cert.KernelIdeal.Gen
open Idealize.ShloMosaic Idealize.ShloMosaic.TcCoe Idealize.ShloMosaic.StableHlo

section
variable (m : (ℓ : Loc nD τ sig) → Buf (Elt Ideal) ℓ) (d : Dev nD)

/-- An argument's contents at the launch. -/
abbrev L (r : Ref sig .tc) : Buf (Elt Ideal) ((d.tc : Thread nD τ).loc r) := launchContents m d (Proc.devRef .tc r)

/-- A buffer neither stretch 0 nor the SparseCore call writes, at the second stretch. -/
theorem Vb_keep (r : Ref sig .tc) (h : r ∉ ops0_W ∧ r ≠ main_v17) : Vb m d (Proc.devRef .tc r) = launchContents m d (Proc.devRef .tc r) :=
  (Vb_off m d _ (devRef_ne_of_ne h.2)).trans (ops0_keep _ r h.1)

/-- A buffer no step before the TensorCore call writes, at that call. -/
theorem Vc_keep (r : Ref sig .tc) (h : r ∉ ops0_W ∧ r ≠ main_v17 ∧ r ∉ ops1_W) : Vc m d (Proc.devRef .tc r) = launchContents m d (Proc.devRef .tc r) :=
  (ops1_keep _ r h.2.2).trans (Vb_keep m d r ⟨h.1, h.2.1⟩)

/-- The sample point of ray `r` at depth `p`. -/
def pt (r : Fin 4096) (p : Fin 64) : Fin 3 → EReal :=
  point (fun k => launchContents m d (Proc.devRef .tc main_arg0) (ix2 r k)) (fun k => launchContents m d (Proc.devRef .tc main_arg1) (ix2 r k)) (launchContents m d (Proc.devRef .tc main_arg2) (ix2 r p))

/-- The direction of ray `r`. -/
def dir (r : Fin 4096) : Fin 3 → EReal := dirn (fun k => launchContents m d (Proc.devRef .tc main_arg1) (ix2 r k))

/-- The frequencies. -/
def freq : Fin 30 → EReal := fun l => launchContents m d (Proc.devRef .tc main_arg4) (ix1 l)

/-- The second hidden layer at a point. -/
def hidden (r : Fin 4096) (p : Fin 64) (c : Fin 64) : EReal :=
  hid (fun l c => launchContents m d (Proc.devRef .tc main_arg5) (ix2 l c)) (fun c => launchContents m d (Proc.devRef .tc main_arg6) (ix1 c))
    (fun l c => launchContents m d (Proc.devRef .tc main_arg7) (ix2 l c)) (fun c => launchContents m d (Proc.devRef .tc main_arg8) (ix1 c)) (emb (pt m d r p) (freq m d)) c

/-- The density at a point. -/
def density (r : Fin 4096) (p : Fin 64) : EReal :=
  dens (fun x => launchContents m d (Proc.devRef .tc main_arg13) (ix2 x 0)) (launchContents m d (Proc.devRef .tc main_arg14) (ix1 0)) (hidden m d r p)

/-- The colour at a point. -/
def colour (r : Fin 4096) (p : Fin 64) (k : Fin 3) : EReal :=
  colr (fun x k => launchContents m d (Proc.devRef .tc main_arg11) (ix2 x k)) (fun k => launchContents m d (Proc.devRef .tc main_arg12) (ix1 k))
    (lay3 (fun l c => launchContents m d (Proc.devRef .tc main_arg9) (ix2 l c)) (fun c => launchContents m d (Proc.devRef .tc main_arg10) (ix1 c)) (hidden m d r p) (emb (dir m d r) (freq m d))) k

/-- The grid's bit at a point's cell. -/
def bit (r : Fin 4096) (p : Fin 64) : BitVec 1 :=
  launchContents m d (Proc.devRef .tc main_arg3) (ix3 ⟨(cell (pt m d r p 0)).toNat, cell_lt _⟩ ⟨(cell (pt m d r p 1)).toNat, cell_lt _⟩ ⟨(cell (pt m d r p 2)).toNat, cell_lt _⟩)

/-- The points, at the second stretch. -/
theorem Vb7 (r : Fin 4096) (p : Fin 64) (k : Fin 3) : (Vb m d (Proc.devRef .tc main_v7) (ix3 r p k) : EReal) = pt m d r p k :=
  (congrFun (Vb_off m d _ (devRef_ne_of_ne (by decide))) _).trans (host7 (launchContents m d) r p k)

/-- The transposed points the SparseCore call reads. -/
theorem cpA_apply (k : Fin 3) (r : Fin 4096) (p : Fin 64) : (cpA m d (at3 k ⟨r.val * 64 + p.val, by omega⟩) : EReal) = pt m d r p k := by
  have e : at3 k ⟨r.val * 64 + p.val, by omega⟩ = ix2 k ⟨r.val * 64 + p.val, by omega⟩ := by
    funext a
    match a with
    | ⟨0, _⟩ => rfl
    | ⟨1, _⟩ => rfl
  rw [e]
  refine (host16 (launchContents m d) k ⟨r.val * 64 + p.val, by omega⟩).trans ?_
  have h1 : (⟨(r.val * 64 + p.val) / 64, by omega⟩ : Fin 4096) = r := Fin.ext (by show (r.val * 64 + p.val) / 64 = r.val; omega)
  have h2 : (⟨(r.val * 64 + p.val) % 64, by omega⟩ : Fin 64) = p := Fin.ext (by show (r.val * 64 + p.val) % 64 = p.val; omega)
  unfold pt
  simp only [h1, h2]

/-- The flat grid at `A * 1024 + B * 32 + C` is the grid at `(A, B, C)`. -/
theorem cgA_apply (A B C : Fin 32) (i : Fin 32768) (h : i.val = A.val * 1024 + B.val * 32 + C.val) :
    (cgA m d (ix1 i) : EReal) = FloatOps.uitofp (F := Ideal) .f32 (launchContents m d (Proc.devRef .tc main_arg3) (ix3 A B C) : BitVec 1) := by
  have e1 : (⟨i.val / 1024, by omega⟩ : Fin 32) = A := Fin.ext (by show i.val / 1024 = A.val; omega)
  have e2 : (⟨i.val / 32 % 32, by omega⟩ : Fin 32) = B := Fin.ext (by show i.val / 32 % 32 = B.val; omega)
  have e3 : (⟨i.val % 32, by omega⟩ : Fin 32) = C := Fin.ext (by show i.val % 32 = C.val; omega)
  have h14 := host14 (launchContents m d) i
  rw [e1, e2, e3] at h14
  exact h14

/-- An entry of the flat grid named by its number. -/
theorem cellOf_ix1 (cg : S32768.Idx → EReal) (a b c : EReal) : cellOf (F := Ideal) cg a b c = cg (ix1 ⟨(linIx (F := Ideal) a b c).toNat, linIx_lt (F := Ideal) a b c⟩) := by
  unfold cellOf
  refine congrArg cg (funext fun x => ?_)
  obtain rfl : x = 0 := Subsingleton.elim _ _
  rfl

/-- The kernel's cell of a coordinate is the network's. -/
theorem axisIx_eq (a : EReal) : axisIx (F := Ideal) a = cell a := rfl

/-- The flat grid's entry at a point's cell. -/
theorem cellOf_cgA (a b c : EReal) : (cellOf (F := Ideal) (cgA m d) a b c : EReal)
    = FloatOps.uitofp (F := Ideal) .f32 (launchContents m d (Proc.devRef .tc main_arg3) (ix3 ⟨(cell a).toNat, cell_lt _⟩ ⟨(cell b).toNat, cell_lt _⟩ ⟨(cell c).toNat, cell_lt _⟩) : BitVec 1) := by
  refine (cellOf_ix1 (cgA m d) a b c).trans (cgA_apply m d _ _ _ _ ?_)
  have h := linIx_toNat (F := Ideal) a b c
  rw [axisIx_eq, axisIx_eq, axisIx_eq] at h
  exact h

/-- The mask's entry of a point: the grid's bit as a number. -/
theorem mask_apply (r : Fin 4096) (p : Fin 64) : (Vc m d (Proc.devRef .tc main_v18) (ix2 r p) : EReal) = FloatOps.uitofp (F := Ideal) .f32 (bit m d r p) := by
  refine (host18 (Vb m d) r p).trans ((congrFun (Vb_mask m d) _).trans ?_)
  refine Eq.trans ?_ (cellOf_cgA m d (pt m d r p 0) (pt m d r p 1) (pt m d r p 2))
  rw [← cpA_apply, ← cpA_apply, ← cpA_apply]
  rfl

/-- The zero offset of a whole block. -/
theorem off2 : (![0, 0] : Fin 2 → ℕ) = fun _ => 0 := by
  funext a
  fin_cases a <;> rfl

/-- The zero offset of a whole block of rank three. -/
theorem off3 : (![0, 0, 0] : Fin 3 → ℕ) = fun _ => 0 := by
  funext a
  fin_cases a <;> rfl

/-- A load of a whole S1x90 block is the block. -/
theorem ldr0 (x : Vec Ideal S1x90 .f32) : View.ld (Val := Elt Ideal) (e' := .f32) x r1_0 = x := View.ld_unit_zero (S := S1x90) off2 inb_S1x90_S1x90_0_0 x

/-- A load of a whole S64x64 block is the block. -/
theorem ldr1 (x : Vec Ideal S64x64 .f32) : View.ld (Val := Elt Ideal) (e' := .f32) x r1_1 = x := View.ld_unit_zero (S := S64x64) off2 inb_S64x64_S64x64_0_0 x

/-- A load of a whole S90x64 block is the block. -/
theorem ldr2 (x : Vec Ideal S90x64 .f32) : View.ld (Val := Elt Ideal) (e' := .f32) x r1_2 = x := View.ld_unit_zero (S := S90x64) off2 inb_S90x64_S90x64_0_0 x

/-- A load of a whole S1x64 block is the block. -/
theorem ldr3 (x : Vec Ideal S1x64 .f32) : View.ld (Val := Elt Ideal) (e' := .f32) x r1_3 = x := View.ld_unit_zero (S := S1x64) off2 inb_S1x64_S1x64_0_0 x

/-- A load of a whole S1x1 block is the block. -/
theorem ldr4 (x : Vec Ideal S1x1 .f32) : View.ld (Val := Elt Ideal) (e' := .f32) x r1_4 = x := View.ld_unit_zero (S := S1x1) off2 inb_S1x1_S1x1_0_0 x

/-- A load of a whole S64x3 block is the block. -/
theorem ldr5 (x : Vec Ideal S64x3 .f32) : View.ld (Val := Elt Ideal) (e' := .f32) x r1_5 = x := View.ld_unit_zero (S := S64x3) off2 inb_S64x3_S64x3_0_0 x

/-- A load of a whole S1x3 block is the block. -/
theorem ldr6 (x : Vec Ideal S1x3 .f32) : View.ld (Val := Elt Ideal) (e' := .f32) x r1_6 = x := View.ld_unit_zero (S := S1x3) off2 inb_S1x3_S1x3_0_0 x

/-- Output window 19's block from the input blocks. -/
theorem out19_eq (x0 : Vec Ideal S64x64 .f32) (x1 : Vec Ideal S64x64 .f32) (x2 : Vec Ideal S64x64 .f32) (x3 : Vec Ideal S64x3 .f32) (x4 : Vec Ideal S64x64 .f32) (x5 : Vec Ideal S1x90 .f32) (x6 : Vec Ideal S90x64 .f32) (x7 : Vec Ideal S90x64 .f32) (x8 : Vec Ideal S1x64 .f32) (x9 : Vec Ideal S64x64 .f32) (x10 : Vec Ideal S1x64 .f32) (x11 : Vec Ideal S64x64 .f32) (x12 : Vec Ideal S90x64 .f32) (x13 : Vec Ideal S90x64 .f32) (x14 : Vec Ideal S1x64 .f32) (x15 : Vec Ideal S64x3 .f32) (x16 : Vec Ideal S1x3 .f32) (x17 : Vec Ideal S1x64 .f32) (x18 : Vec Ideal S1x1 .f32) :
    out1_19 x0 x1 x2 x3 x4 x5 x6 x7 x8 x9 x10 x11 x12 x13 x14 x15 x16 x17 x18 = k1_pay2 (k1_pay9 (k1_pay7 (k1_pay5 x5 x0 x1 x2 x6 x7) (k1_pay6 x8) x9 x10) (Named.named κ "tenth" 0x3DCCCCCD#32) x17 x18) x4 := by
  unfold out1_19
  simp only [ldr0, ldr1, ldr2, ldr3, ldr4, ldr5, ldr6]
  exact View.canon_unit_zero (S := S64x64) off2 inb_S64x64_S64x64_0_0 _

/-- Output window 20's block from the input blocks. -/
theorem out20_eq (x0 : Vec Ideal S64x64 .f32) (x1 : Vec Ideal S64x64 .f32) (x2 : Vec Ideal S64x64 .f32) (x3 : Vec Ideal S64x3 .f32) (x4 : Vec Ideal S64x64 .f32) (x5 : Vec Ideal S1x90 .f32) (x6 : Vec Ideal S90x64 .f32) (x7 : Vec Ideal S90x64 .f32) (x8 : Vec Ideal S1x64 .f32) (x9 : Vec Ideal S64x64 .f32) (x10 : Vec Ideal S1x64 .f32) (x11 : Vec Ideal S64x64 .f32) (x12 : Vec Ideal S90x64 .f32) (x13 : Vec Ideal S90x64 .f32) (x14 : Vec Ideal S1x64 .f32) (x15 : Vec Ideal S64x3 .f32) (x16 : Vec Ideal S1x3 .f32) (x17 : Vec Ideal S1x64 .f32) (x18 : Vec Ideal S1x1 .f32) :
    out1_20 x0 x1 x2 x3 x4 x5 x6 x7 x8 x9 x10 x11 x12 x13 x14 x15 x16 x17 x18 = k1_pay3 (k1_pay14 (k1_pay4 x5) (k1_pay8 (k1_pay7 (k1_pay5 x5 x0 x1 x2 x6 x7) (k1_pay6 x8) x9 x10) (Named.named κ "tenth" 0x3DCCCCCD#32)) (k1_pay10 x3) (iota .tc S64x90 32 [1] iota_S64x90_d1_w32) k1_pay11 (k1_pay12 x3) x12 x13 x14 x11) (k1_pay15 (k1_pay4 x5) (k1_pay8 (k1_pay7 (k1_pay5 x5 x0 x1 x2 x6 x7) (k1_pay6 x8) x9 x10) (Named.named κ "tenth" 0x3DCCCCCD#32)) (k1_pay10 x3) (iota .tc S64x90 32 [1] iota_S64x90_d1_w32) k1_pay11 (k1_pay12 x3) x12 x13 x14 x11) x15 x16 x4 := by
  unfold out1_20
  simp only [ldr0, ldr1, ldr2, ldr3, ldr4, ldr5, ldr6]
  exact View.canon_unit_zero (S := S64x64x3) off3 inb_S64x64x3_S64x64x3_0_0_0 _

/-- The first result's array at a point: the density times the mask's entry. -/
theorem arr19_val (r : Fin 4096) (p : Fin 64) :
    ((datsA m 0 d).arrAt 19 cfg1.N (ix2 r p) : EReal) = density m d r p * FloatOps.uitofp (F := Ideal) .f32 (bit m d r p) := by
  refine (arr19 (fun c b => Vc m c (Proc.devRef .tc b)) d r p).trans ?_
  refine (congrFun (out19_eq _ _ _ _ _ _ _ _ _ _ _ _ _ _ _ _ _ _ _) _).trans ?_
  refine (dens_block (W1 := (fun l c => launchContents m d (Proc.devRef .tc main_arg5) (ix2 l c))) (b1 := (fun c => launchContents m d (Proc.devRef .tc main_arg6) (ix1 c))) (W2 := (fun l c => launchContents m d (Proc.devRef .tc main_arg7) (ix2 l c))) (b2 := (fun c => launchContents m d (Proc.devRef .tc main_arg8) (ix1 c))) (Wd := fun x => launchContents m d (Proc.devRef .tc main_arg13) (ix2 x 0)) (bd := launchContents m d (Proc.devRef .tc main_arg14) (ix1 0)) (P := pt m d r p) (f := freq m d) (i := inRow r) (j := p)
      (h0 := (iblk0 (fun c b => Vc m c (Proc.devRef .tc b)) d r p).trans ((host24 (Vb m d) r p).trans (Vb7 m d r p 0)))
      (h1 := (iblk1 (fun c b => Vc m c (Proc.devRef .tc b)) d r p).trans ((host26 (Vb m d) r p).trans (Vb7 m d r p 1)))
      (h2 := (iblk2 (fun c b => Vc m c (Proc.devRef .tc b)) d r p).trans ((host28 (Vb m d) r p).trans (Vb7 m d r p 2)))
      (h5 := fun l => (congrFun (iblk5 (fun c b => Vc m c (Proc.devRef .tc b)) d (ptOf r)) _).trans ((host22 (Vb m d) l).trans (congrFun (Vb_keep m d main_arg4 (by decide)) _)))
      (h6 := fun l c => (congrFun (iblk6 (fun c b => Vc m c (Proc.devRef .tc b)) d (ptOf r)) _).trans ((host29 (Vb m d) l c).trans (congrFun (Vb_keep m d main_arg5 (by decide)) _)))
      (h7 := fun l c => (congrFun (iblk7 (fun c b => Vc m c (Proc.devRef .tc b)) d (ptOf r)) _).trans ((host30 (Vb m d) l c).trans (congrFun (Vb_keep m d main_arg5 (by decide)) _)))
      (h8 := fun c => (congrFun (iblk8 (fun c b => Vc m c (Proc.devRef .tc b)) d (ptOf r)) _).trans ((host31 (Vb m d) c).trans (congrFun (Vb_keep m d main_arg6 (by decide)) _)))
      (h9 := fun x c => (congrFun (iblk9 (fun c b => Vc m c (Proc.devRef .tc b)) d (ptOf r)) _).trans (congrFun (Vc_keep m d main_arg7 (by decide)) _))
      (h10 := fun c => (congrFun (iblk10 (fun c b => Vc m c (Proc.devRef .tc b)) d (ptOf r)) _).trans ((host32 (Vb m d) c).trans (congrFun (Vb_keep m d main_arg8 (by decide)) _)))
      (h17 := fun x => (congrFun (iblk17 (fun c b => Vc m c (Proc.devRef .tc b)) d (ptOf r)) _).trans ((host38 (Vb m d) x).trans (congrFun (Vb_keep m d main_arg13 (by decide)) _)))
      (h18 := (congrFun (iblk18 (fun c b => Vc m c (Proc.devRef .tc b)) d (ptOf r)) _).trans ((host39 (Vb m d)).trans (congrFun (Vb_keep m d main_arg14 (by decide)) _)))).trans ?_
  exact congrArg (density m d r p * ·) ((iblk4 (fun c b => Vc m c (Proc.devRef .tc b)) d r p).trans (mask_apply m d r p))

/-- The second result's array at a point: the colour times the mask's entry. -/
theorem arr20_val (r : Fin 4096) (p : Fin 64) (k : Fin 3) :
    ((datsA m 0 d).arrAt 20 cfg1.N (ix3 r p k) : EReal) = colour m d r p k * FloatOps.uitofp (F := Ideal) .f32 (bit m d r p) := by
  refine (arr20 (fun c b => Vc m c (Proc.devRef .tc b)) d r p k).trans ?_
  refine (congrFun (out20_eq _ _ _ _ _ _ _ _ _ _ _ _ _ _ _ _ _ _ _) _).trans ?_
  refine (col_block (W1 := (fun l c => launchContents m d (Proc.devRef .tc main_arg5) (ix2 l c))) (b1 := (fun c => launchContents m d (Proc.devRef .tc main_arg6) (ix1 c))) (W2 := (fun l c => launchContents m d (Proc.devRef .tc main_arg7) (ix2 l c))) (b2 := (fun c => launchContents m d (Proc.devRef .tc main_arg8) (ix1 c))) (W3 := (fun l c => launchContents m d (Proc.devRef .tc main_arg9) (ix2 l c))) (b3 := (fun c => launchContents m d (Proc.devRef .tc main_arg10) (ix1 c))) (W4 := (fun l c => launchContents m d (Proc.devRef .tc main_arg11) (ix2 l c))) (b4 := (fun c => launchContents m d (Proc.devRef .tc main_arg12) (ix1 c))) (P := pt m d r p) (D := dir m d r) (f := freq m d) (i := inRow r) (j := p)
      (h0 := (iblk0 (fun c b => Vc m c (Proc.devRef .tc b)) d r p).trans ((host24 (Vb m d) r p).trans (Vb7 m d r p 0)))
      (h1 := (iblk1 (fun c b => Vc m c (Proc.devRef .tc b)) d r p).trans ((host26 (Vb m d) r p).trans (Vb7 m d r p 1)))
      (h2 := (iblk2 (fun c b => Vc m c (Proc.devRef .tc b)) d r p).trans ((host28 (Vb m d) r p).trans (Vb7 m d r p 2)))
      (h3 := fun k => (iblk3 (fun c b => Vc m c (Proc.devRef .tc b)) d r k).trans ((congrFun ((ops1_keep _ main_v12 (by decide)).trans (Vb_off m d _ (devRef_ne_of_ne (by decide)))) _).trans (host12 (launchContents m d) r k)))
      (h5 := fun l => (congrFun (iblk5 (fun c b => Vc m c (Proc.devRef .tc b)) d (ptOf r)) _).trans ((host22 (Vb m d) l).trans (congrFun (Vb_keep m d main_arg4 (by decide)) _)))
      (h6 := fun l c => (congrFun (iblk6 (fun c b => Vc m c (Proc.devRef .tc b)) d (ptOf r)) _).trans ((host29 (Vb m d) l c).trans (congrFun (Vb_keep m d main_arg5 (by decide)) _)))
      (h7 := fun l c => (congrFun (iblk7 (fun c b => Vc m c (Proc.devRef .tc b)) d (ptOf r)) _).trans ((host30 (Vb m d) l c).trans (congrFun (Vb_keep m d main_arg5 (by decide)) _)))
      (h8 := fun c => (congrFun (iblk8 (fun c b => Vc m c (Proc.devRef .tc b)) d (ptOf r)) _).trans ((host31 (Vb m d) c).trans (congrFun (Vb_keep m d main_arg6 (by decide)) _)))
      (h9 := fun x c => (congrFun (iblk9 (fun c b => Vc m c (Proc.devRef .tc b)) d (ptOf r)) _).trans (congrFun (Vc_keep m d main_arg7 (by decide)) _))
      (h10 := fun c => (congrFun (iblk10 (fun c b => Vc m c (Proc.devRef .tc b)) d (ptOf r)) _).trans ((host32 (Vb m d) c).trans (congrFun (Vb_keep m d main_arg8 (by decide)) _)))
      (h11 := fun l c => (congrFun (iblk11 (fun c b => Vc m c (Proc.devRef .tc b)) d (ptOf r)) _).trans ((host33 (Vb m d) l c).trans (congrFun (Vb_keep m d main_arg9 (by decide)) _)))
      (h12 := fun l c => (congrFun (iblk12 (fun c b => Vc m c (Proc.devRef .tc b)) d (ptOf r)) _).trans ((host34 (Vb m d) l c).trans (congrFun (Vb_keep m d main_arg9 (by decide)) _)))
      (h13 := fun l c => (congrFun (iblk13 (fun c b => Vc m c (Proc.devRef .tc b)) d (ptOf r)) _).trans ((host35 (Vb m d) l c).trans (congrFun (Vb_keep m d main_arg9 (by decide)) _)))
      (h14 := fun c => (congrFun (iblk14 (fun c b => Vc m c (Proc.devRef .tc b)) d (ptOf r)) _).trans ((host36 (Vb m d) c).trans (congrFun (Vb_keep m d main_arg10 (by decide)) _)))
      (h15 := fun x c => (congrFun (iblk15 (fun c b => Vc m c (Proc.devRef .tc b)) d (ptOf r)) _).trans (congrFun (Vc_keep m d main_arg11 (by decide)) _))
      (h16 := fun k => (congrFun (iblk16 (fun c b => Vc m c (Proc.devRef .tc b)) d (ptOf r)) _).trans ((host37 (Vb m d) k).trans (congrFun (Vb_keep m d main_arg12 (by decide)) _))) k).trans ?_
  exact congrArg (colour m d r p k * ·) ((iblk4 (fun c b => Vc m c (Proc.devRef .tc b)) d r p).trans (mask_apply m d r p))

/-- Times the grid's bit as a number is choosing by the bit. -/
theorem mul_bit (b : BitVec 1) (x : EReal) : x * FloatOps.uitofp (F := Ideal) .f32 b = Scalar.select b x 0 := by
  obtain rfl | rfl : b = 0#1 ∨ b = 1#1 := by revert b; decide
  · have h : (FloatOps.uitofp (F := Ideal) .f32 (0#1) : EReal) = 0 := by
      show (((0#1 : BitVec 1).toNat : ℝ) : EReal) = 0
      simp
    rw [h, mul_zero]
    rfl
  · have h : (FloatOps.uitofp (F := Ideal) .f32 (1#1) : EReal) = 1 := by
      show (((1#1 : BitVec 1).toNat : ℝ) : EReal) = 1
      simp
    rw [h, mul_one]
    rfl

/-- The first result at the end of the run. -/
theorem Ve41 (r : Fin 4096) (p : Fin 64) :
    (Ve m d (Proc.devRef .tc main_v41) (ix3 r p 0) : EReal) = Scalar.select (bit m d r p) (density m d r p) (0 : EReal) :=
  (host41 (Vd m d) r p).trans ((congrFun (Pipeline.afterRegion_arr (datsA m 0 d) (Vc m d) winFacts1.arr_inj 19) _).trans
    ((arr19_val m d r p).trans (mul_bit _ _)))

/-- The second result at the end of the run. -/
theorem Ve40 (r : Fin 4096) (p : Fin 64) (k : Fin 3) :
    (Ve m d (Proc.devRef .tc main_v40_1) (ix3 r p k) : EReal) = Scalar.select (bit m d r p) (colour m d r p k) (0 : EReal) :=
  (congrFun (ops2_keep (Vd m d) main_v40_1 (by decide)) _).trans
    ((congrFun (Pipeline.afterRegion_arr (datsA m 0 d) (Vc m d) winFacts1.arr_inj 20) _).trans
      ((arr20_val m d r p k).trans (mul_bit _ _)))

end

end Cert.Proof.K

end

end
-- ==== Proof.RefVal.lean ====
/-
  The reference's results read at an index, over the extended reals: the network of `Spec` at each point.
-/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.R

open Cert.ReferenceIdeal Cert.ReferenceIdeal.Value
open Idealize.ShloMosaic Idealize.ShloMosaic.StableHlo

variable (V : Valuation τ sig (Elt Ideal))

/-- The sample point of ray `r` at depth `p`. -/
def pt (r : Fin 4096) (p : Fin 64) : Fin 3 → EReal :=
  point (fun k => V (Proc.devRef .tc main_arg0) (ix2 r k)) (fun k => V (Proc.devRef .tc main_arg1) (ix2 r k)) (V (Proc.devRef .tc main_arg2) (ix2 r p))

/-- The direction of ray `r`. -/
def dir (r : Fin 4096) : Fin 3 → EReal := dirn (fun k => V (Proc.devRef .tc main_arg1) (ix2 r k))

/-- The frequencies. -/
def freq : Fin 30 → EReal := fun l => V (Proc.devRef .tc main_arg4) (ix1 l)

/-- The second hidden layer at a point. -/
def hidden (r : Fin 4096) (p : Fin 64) (c : Fin 64) : EReal :=
  hid (fun l c => V (Proc.devRef .tc main_arg5) (ix2 l c)) (fun c => V (Proc.devRef .tc main_arg6) (ix1 c))
    (fun l c => V (Proc.devRef .tc main_arg7) (ix2 l c)) (fun c => V (Proc.devRef .tc main_arg8) (ix1 c)) (emb (pt V r p) (freq V)) c

/-- The density at a point. -/
def density (r : Fin 4096) (p : Fin 64) : EReal :=
  dens (fun x => V (Proc.devRef .tc main_arg13) (ix2 x 0)) (V (Proc.devRef .tc main_arg14) (ix1 0)) (hidden V r p)

/-- The colour at a point. -/
def colour (r : Fin 4096) (p : Fin 64) (k : Fin 3) : EReal :=
  colr (fun x k => V (Proc.devRef .tc main_arg11) (ix2 x k)) (fun k => V (Proc.devRef .tc main_arg12) (ix1 k))
    (lay3 (fun l c => V (Proc.devRef .tc main_arg9) (ix2 l c)) (fun c => V (Proc.devRef .tc main_arg10) (ix1 c)) (hidden V r p) (emb (dir V r) (freq V))) k

/-- The reference's points. -/
theorem v7_apply (r : Fin 4096) (p : Fin 64) (k : Fin 3) : (res_main_v7 V (ix3 r p k) : EReal) = pt V r p k := by
  simp only [pt, point]
  pointwise [res_main_v7]

/-- The position's embedding before sine and cosine. -/
theorem v45_apply (r : Fin 4096) (p : Fin 64) (l : Fin 90) : (res_main_v45 V (ix3 r p l) : EReal) = emb (pt V r p) (freq V) l := by
  simp only [emb, freq, ← v7_apply]
  pointwise [res_main_v45]

/-- The direction's embedding before sine and cosine. -/
theorem v90_apply (r : Fin 4096) (l : Fin 90) : (res_main_v90 V (ix2 r l) : EReal) = emb (dir V r) (freq V) l := by
  simp only [emb, freq, dir, dirn]
  pointwise [res_main_v90]

/-- The first hidden layer at a point. -/
def hidden1 (r : Fin 4096) (p : Fin 64) (c : Fin 64) : EReal :=
  lay1 (fun l c => V (Proc.devRef .tc main_arg5) (ix2 l c)) (fun c => V (Proc.devRef .tc main_arg6) (ix1 c)) (emb (pt V r p) (freq V)) c

/-- The reference's softplus is the network's. -/
theorem sp_ref (z : EReal) :
    Ideal.div (if z ≠ z then z else max z 0 + Ideal.log1p (Ideal.exp (-(FloatOps.absf (F := Ideal) (φ := .f32) z)))) (Ideal.ofBits .f32 0x41200000#32) = sp z := by
  simp only [ne_eq, not_true_eq_false, if_false]
  rfl

/-- The first layer's softplus. -/
theorem v54_apply (r : Fin 4096) (p : Fin 64) (c : Fin 64) : sp (res_main_v54 V (ix3 r p c)) = hidden1 V r p c := by
  unfold hidden1 lay1
  refine congrArg sp ?_
  simp only [← v45_apply]
  pointwise [res_main_v54]

/-- The second layer's softplus. -/
theorem v66_apply (r : Fin 4096) (p : Fin 64) (c : Fin 64) : (res_main_v66 V (ix3 r p c) : EReal) = hidden V r p c := by
  have h63 : (res_main_v63 V (ix3 r p c) : EReal) = ten * (∑ x : Fin 64, hidden1 V r p x * (V (Proc.devRef .tc main_arg7) (ix2 x c)) + V (Proc.devRef .tc main_arg8) (ix1 c)) := by
    simp only [← v54_apply, ← sp_ref]
    pointwise [res_main_v63, res_main_call1_v3, res_main_call1_cst]
  have h66 : (res_main_v66 V (ix3 r p c) : EReal) = sp (res_main_v63 V (ix3 r p c)) := by
    rw [← sp_ref]
    pointwise [res_main_v66, res_main_call2_v3, res_main_call2_cst]
  rw [h66, h63]
  rfl

/-- The density's linear form. -/
theorem v72_apply (r : Fin 4096) (p : Fin 64) :
    (res_main_v72 V (ix3 r p 0) : EReal) = ten * (∑ x : Fin 64, hidden V r p x * (V (Proc.devRef .tc main_arg13) (ix2 x 0)) + V (Proc.devRef .tc main_arg14) (ix1 0)) := by
  simp only [← v66_apply]
  pointwise [res_main_v72]

/-- A sum over 244 lanes as the sums over the three bands. -/
theorem sum244 (g : Fin 244 → EReal) :
    ∑ x : Fin 244, g x = ∑ x : Fin 64, g ⟨x.val, by omega⟩ + (∑ l : Fin 90, g ⟨64 + l.val, by omega⟩ + ∑ l : Fin 90, g ⟨154 + l.val, by omega⟩) := by
  have h1 := Fin.sum_univ_add (M := EReal) (a := 64) (b := 180) g
  have h2 := Fin.sum_univ_add (M := EReal) (a := 90) (b := 90) (fun l => g (Fin.natAdd 64 l))
  rw [h1, h2]
  congr 1

/-- The third layer's product over a concatenated vector, band by band. -/
theorem bands (A : Fin 64 → EReal) (B C : Fin 90 → EReal) (w : Fin 244 → EReal) :
    ∑ x : Fin 244, (if h : x.val < 64 then A ⟨x.val, h⟩ else if h' : x.val - 64 < 90 then B ⟨x.val - 64, h'⟩ else C ⟨x.val - 64 - 90, by omega⟩) * w x
      = ∑ x : Fin 64, A x * w ⟨x.val, by omega⟩ + (∑ l : Fin 90, B l * w ⟨64 + l.val, by omega⟩ + ∑ l : Fin 90, C l * w ⟨154 + l.val, by omega⟩) := by
  rw [sum244]
  have hA : ∀ x : Fin 64, (if h : x.val < 64 then A ⟨x.val, h⟩ else if h' : x.val - 64 < 90 then B ⟨x.val - 64, h'⟩ else C ⟨x.val - 64 - 90, by omega⟩) = A x := fun x => by
    rw [dif_pos x.isLt]
  have hB : ∀ l : Fin 90, (if h : 64 + l.val < 64 then A ⟨64 + l.val, h⟩ else if h' : 64 + l.val - 64 < 90 then B ⟨64 + l.val - 64, h'⟩ else C ⟨64 + l.val - 64 - 90, by omega⟩) = B l := fun l => by
    rw [dif_neg (by omega), dif_pos (by omega)]
    exact congrArg B (Fin.ext (by simp))
  have hC : ∀ l : Fin 90, (if h : 154 + l.val < 64 then A ⟨154 + l.val, h⟩ else if h' : 154 + l.val - 64 < 90 then B ⟨154 + l.val - 64, h'⟩ else C ⟨154 + l.val - 64 - 90, by omega⟩) = C l := fun l => by
    rw [dif_neg (by omega), dif_neg (by omega)]
    exact congrArg C (Fin.ext (by simp; omega))
  simp only [hA, hB, hC]

/-- The third layer's softplus. -/
theorem v102_apply (r : Fin 4096) (p : Fin 64) (c : Fin 64) :
    sp (res_main_v102 V (ix3 r p c)) = lay3 (fun l c => V (Proc.devRef .tc main_arg9) (ix2 l c)) (fun c => V (Proc.devRef .tc main_arg10) (ix1 c)) (hidden V r p) (emb (dir V r) (freq V)) c := by
  unfold lay3
  refine congrArg sp ?_
  simp only [← v66_apply, ← v90_apply]
  pointwise [res_main_v102]
  refine congrArg (ten * ·) ?_
  rw [← add_assoc, ← add_assoc]
  refine congrArg (· + _) ?_
  rw [add_assoc]
  exact bands (fun x => res_main_v66 V (ix3 r p x)) (fun l => Ideal.sin (res_main_v90 V (ix2 r l))) (fun l => Ideal.cos (res_main_v90 V (ix2 r l))) (fun x => V (Proc.devRef .tc main_arg9) (ix2 x c))

/-- The cell of a coordinate. -/
theorem v13_apply (r : Fin 4096) (p : Fin 64) (k : Fin 3) : (res_main_v13 V (ix3 r p k) : BitVec 32) = cell (pt V r p k) := by
  unfold cell
  rw [← clip_comm, ← v7_apply]
  pointwise [res_main_v13]
  rfl

/-- The grid's bit at a point's cell. -/
def bit (r : Fin 4096) (p : Fin 64) : BitVec 1 :=
  V (Proc.devRef .tc main_arg3) (ix3 ⟨(cell (pt V r p 0)).toNat, cell_lt _⟩ ⟨(cell (pt V r p 1)).toNat, cell_lt _⟩ ⟨(cell (pt V r p 2)).toNat, cell_lt _⟩)

/-- Where the gather reads its three start indices. -/
theorem siIdx_eq (r : Fin 4096) (p : Fin 64) (k : Fin 3) :
    gather_S32x32x32_S4096x64x3_S4096x64_n_012_n_n_012_2_111.siIdx (ix2 r p) k = ix3 r p k := by
  funext a
  fin_cases a <;> rfl

/-- An index already inside the grid stays as it is through the reference's wrap of negative indices. -/
theorem wrap_eq (w : BitVec 32) (h : w.toNat < 32) : Scalar.select (IntOp.cmpi .slt w 0#32) (IntOp.addi w 32#32) w = w := by
  rw [(small_signed w h).2]
  rfl

/-- On indices inside the grid the gather reads the entry they name. -/
theorem opIdx_val (idx : IVec S4096x64x3 32) (r : Fin 4096) (p : Fin 64) (h : ∀ k, (idx (ix3 r p k)).toNat < 32) (a : Fin 3) :
    (gather_S32x32x32_S4096x64x3_S4096x64_n_012_n_n_012_2_111.operandIdx (ix2 r p) idx a).val = (idx (ix3 r p a)).toNat := by
  have hs : gather_S32x32x32_S4096x64x3_S4096x64_n_012_n_n_012_2_111.start (ix2 r p) idx a = min (idx (ix3 r p a)).toInt.toNat 31 := by
    unfold GatherDims.start
    rw [dif_pos (by fin_cases a <;> decide)]
    fin_cases a
    · exact congrArg (fun z => min (idx z).toInt.toNat 31) (siIdx_eq r p 0)
    · exact congrArg (fun z => min (idx z).toInt.toNat 31) (siIdx_eq r p 1)
    · exact congrArg (fun z => min (idx z).toInt.toNat 31) (siIdx_eq r p 2)
  have hb := gather_S32x32x32_S4096x64x3_S4096x64_n_012_n_n_012_2_111.batchCoord_eq_zero (ix2 r p) a (by fin_cases a <;> decide)
  have ho := gather_S32x32x32_S4096x64x3_S4096x64_n_012_n_n_012_2_111.offCoord_eq_zero (ix2 r p) a (by fin_cases a <;> decide)
  change gather_S32x32x32_S4096x64x3_S4096x64_n_012_n_n_012_2_111.start (ix2 r p) idx a + _ + _ = _
  rw [hs, hb, ho, (small_signed _ (h a)).1]
  have := h a
  omega

/-- The start indices: the three cells of a point. -/
theorem v38_apply (r : Fin 4096) (p : Fin 64) (k : Fin 3) :
    (concatenate S4096x64x3 2
      [⟨S4096x64x1, broadcastInDim S4096x64x1 ![0, 1] Gen.bcast_S4096x64_S4096x64x1_0_1
        (select (cmpi CmpIPredicate.slt (res_main_v15 V) (broadcastInDim S4096x64 ![] Gen.bcast_S_S4096x64 (constantI S_ 32 0#32)))
          (addi (res_main_v15 V) (broadcastInDim S4096x64 ![] Gen.bcast_S_S4096x64 (constantI S_ 32 32#32))) (res_main_v15 V))⟩,
       ⟨S4096x64x1, broadcastInDim S4096x64x1 ![0, 1] Gen.bcast_S4096x64_S4096x64x1_0_1
        (select (cmpi CmpIPredicate.slt (res_main_v17 V) (broadcastInDim S4096x64 ![] Gen.bcast_S_S4096x64 (constantI S_ 32 0#32)))
          (addi (res_main_v17 V) (broadcastInDim S4096x64 ![] Gen.bcast_S_S4096x64 (constantI S_ 32 32#32))) (res_main_v17 V))⟩,
       ⟨S4096x64x1, broadcastInDim S4096x64x1 ![0, 1] Gen.bcast_S4096x64_S4096x64x1_0_1
        (select (cmpi CmpIPredicate.slt (res_main_v19 V) (broadcastInDim S4096x64 ![] Gen.bcast_S_S4096x64 (constantI S_ 32 0#32)))
          (addi (res_main_v19 V) (broadcastInDim S4096x64 ![] Gen.bcast_S_S4096x64 (constantI S_ 32 32#32))) (res_main_v19 V))⟩]
      Gen.concatenates_S4096x64x1_S4096x64x1_S4096x64x1_S4096x64x3_d2 : IVec S4096x64x3 32) (ix3 r p k) = cell (pt V r p k) := by
  have e15 : (res_main_v15 V (ix2 r p) : BitVec 32) = cell (pt V r p 0) := by
    rw [← v13_apply]
    pointwise [res_main_v15]
  have e17 : (res_main_v17 V (ix2 r p) : BitVec 32) = cell (pt V r p 1) := by
    rw [← v13_apply]
    pointwise [res_main_v17]
  have e19 : (res_main_v19 V (ix2 r p) : BitVec 32) = cell (pt V r p 2) := by
    rw [← v13_apply]
    pointwise [res_main_v19]
  obtain rfl | rfl | rfl : k = 0 ∨ k = 1 ∨ k = 2 := by fin_cases k <;> simp
  · refine Eq.trans ?_ (wrap_eq _ (cell_lt (pt V r p 0)))
    rw [← e15]
    pointwise []
  · refine Eq.trans ?_ (wrap_eq _ (cell_lt (pt V r p 1)))
    rw [← e17]
    pointwise []
  · refine Eq.trans ?_ (wrap_eq _ (cell_lt (pt V r p 2)))
    rw [← e19]
    pointwise []

/-- The gathered bit. -/
theorem v39_apply (r : Fin 4096) (p : Fin 64) : (res_main_v39 V (ix2 r p) : BitVec 1) = bit V r p := by
  unfold res_main_v39 Host.gather bit
  refine congrArg (V (Proc.devRef .tc main_arg3)) ?_
  funext a
  apply Fin.ext
  have hidx := v38_apply V r p
  refine (opIdx_val _ r p (fun k => ?_) a).trans ?_
  · rw [hidx]; exact cell_lt _
  · rw [hidx]
    fin_cases a <;> rfl

/-- The first result, whole. -/
def res117 : (⟨S4096x64x1, .f32⟩ : BufTy).Contents (Elt Ideal) := select (broadcastInDim S4096x64x1 ![0, 1] Gen.bcast_S4096x64_S4096x64x1_0_1 (res_main_v39 V)) (subf (broadcastInDim S4096x64x1 ![] Gen.bcast_S_S4096x64x1 (constant (F := Ideal) S_ .f32 0x3F800000#32)) (Host.exp (Host.negf (Host.divf (select (cmpf .une (res_main_call3_v3 V) (res_main_call3_v3 V)) (addf (res_main_v72 V) (broadcastInDim S4096x64x1 ![] Gen.bcast_S_S4096x64x1 (res_main_call3_cst V))) (addf (maximumf (res_main_v72 V) (broadcastInDim S4096x64x1 ![] Gen.bcast_S_S4096x64x1 (res_main_call3_cst V))) (Host.log1p (Host.exp (Host.negf (Host.absf (res_main_call3_v3 V))))))) (broadcastInDim S4096x64x1 ![] Gen.bcast_S_S4096x64x1 (constant (F := Ideal) S_ .f32 0x41200000#32)))))) (broadcastInDim S4096x64x1 ![] Gen.bcast_S_S4096x64x1 (constant (F := Ideal) S_ .f32 0x00000000#32))

/-- The second result, whole. -/
def res119 : (⟨S4096x64x3, .f32⟩ : BufTy).Contents (Elt Ideal) := select (broadcastInDim S4096x64x3 ![0, 1, 2] Gen.bcast_S4096x64x1_S4096x64x3_0_1_2 (broadcastInDim S4096x64x1 ![0, 1] Gen.bcast_S4096x64_S4096x64x1_0_1 (res_main_v39 V))) (Host.divf (broadcastInDim S4096x64x3 ![] Gen.bcast_S_S4096x64x3 (constant (F := Ideal) S_ .f32 0x3F800000#32)) (addf (broadcastInDim S4096x64x3 ![] Gen.bcast_S_S4096x64x3 (constant (F := Ideal) S_ .f32 0x3F800000#32)) (Host.exp (Host.negf (addf (Host.dotGeneral (φ₂ := .f32) dot_S4096x64x64_S64x3_S4096x64x3_2_0_01_1_n_n none (Host.divf (select (cmpf .une (res_main_call5_v3 V) (res_main_call5_v3 V)) (addf (res_main_v102 V) (broadcastInDim S4096x64x64 ![] Gen.bcast_S_S4096x64x64 (res_main_call5_cst V))) (addf (maximumf (res_main_v102 V) (broadcastInDim S4096x64x64 ![] Gen.bcast_S_S4096x64x64 (res_main_call5_cst V))) (Host.log1p (Host.exp (Host.negf (Host.absf (res_main_call5_v3 V))))))) (broadcastInDim S4096x64x64 ![] Gen.bcast_S_S4096x64x64 (constant (F := Ideal) S_ .f32 0x41200000#32))) (V (Proc.devRef .tc main_arg11))) (broadcastInDim S4096x64x3 ![0, 1, 2] Gen.bcast_S1x1x3_S4096x64x3_0_1_2 (broadcastInDim S1x1x3 ![2] Gen.bcast_S3_S1x1x3_2 (V (Proc.devRef .tc main_arg12))))))))) (broadcastInDim S4096x64x3 ![] Gen.bcast_S_S4096x64x3 (constant (F := Ideal) S_ .f32 0x00000000#32))

/-- The first result at a point: its density where the grid's bit is set, else zero. -/
theorem res117_apply (r : Fin 4096) (p : Fin 64) :
    (res117 V (ix3 r p 0) : EReal) = Scalar.select (bit V r p) (density V r p) (0 : EReal) := by
  have h : density V r p = 1 - Ideal.exp (-(sp (res_main_v72 V (ix3 r p 0)))) := by
    rw [v72_apply]
    rfl
  rw [h, ← v39_apply, ← sp_ref]
  pointwise [res117, res_main_call3_v3, res_main_call3_cst]

/-- The second result at a point: its colour where the grid's bit is set, else zero. -/
theorem res119_apply (r : Fin 4096) (p : Fin 64) (k : Fin 3) :
    (res119 V (ix3 r p k) : EReal) = Scalar.select (bit V r p) (colour V r p k) (0 : EReal) := by
  unfold colour colr
  simp only [← v102_apply, ← v39_apply, ← sp_ref]
  pointwise [res119, res_main_call5_v3, res_main_call5_cst]

end Cert.Proof.R

end

end
-- ==== Proof.Value.lean ====
/-
  The two programs compute the same results from the same arguments, over the extended reals.
-/
module

public import proofs.«01_k».proof.Proof.KerVal
public import proofs.«01_k».proof.Proof.RefVal
public import proofs.«01_k».proof.Proof.Frames

@[expose] public section

set_option maxRecDepth 16384

noncomputable section

namespace Cert.Proof

open Idealize.ShloMosaic Idealize.ShloMosaic.TcCoe Idealize.ShloMosaic.StableHlo Idealize.SL.Sem

section

/-- The kernel's memory and the reference's agree on the arguments. -/
structure Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- Argument 0 agrees at an index. -/
theorem Agree.a0 (h : Agree m m' c) (i : Fin 4096) (j : Fin 3) :
    (launchContents m' c (Proc.devRef .tc Cert.ReferenceIdeal.main_arg0) (ix2 i j) : EReal) = launchContents m c (Proc.devRef .tc Cert.KernelIdeal.main_arg0) (ix2 i j) :=
  congrFun h.h0 _

/-- Argument 1 agrees at an index. -/
theorem Agree.a1 (h : Agree m m' c) (i : Fin 4096) (j : Fin 3) :
    (launchContents m' c (Proc.devRef .tc Cert.ReferenceIdeal.main_arg1) (ix2 i j) : EReal) = launchContents m c (Proc.devRef .tc Cert.KernelIdeal.main_arg1) (ix2 i j) :=
  congrFun h.h1 _

/-- Argument 2 agrees at an index. -/
theorem Agree.a2 (h : Agree m m' c) (i : Fin 4096) (j : Fin 64) :
    (launchContents m' c (Proc.devRef .tc Cert.ReferenceIdeal.main_arg2) (ix2 i j) : EReal) = launchContents m c (Proc.devRef .tc Cert.KernelIdeal.main_arg2) (ix2 i j) :=
  congrFun h.h2 _

/-- Argument 3 agrees at an index. -/
theorem Agree.a3 (h : Agree m m' c) (i : Fin 32) (j : Fin 32) (k : Fin 32) :
    (launchContents m' c (Proc.devRef .tc Cert.ReferenceIdeal.main_arg3) (ix3 i j k) : BitVec 1) = launchContents m c (Proc.devRef .tc Cert.KernelIdeal.main_arg3) (ix3 i j k) :=
  congrFun h.h3 _

/-- Argument 4 agrees at an index. -/
theorem Agree.a4 (h : Agree m m' c) (i : Fin 30) :
    (launchContents m' c (Proc.devRef .tc Cert.ReferenceIdeal.main_arg4) (ix1 i) : EReal) = launchContents m c (Proc.devRef .tc Cert.KernelIdeal.main_arg4) (ix1 i) :=
  congrFun h.h4 _

/-- Argument 5 agrees at an index. -/
theorem Agree.a5 (h : Agree m m' c) (i : Fin 180) (j : Fin 64) :
    (launchContents m' c (Proc.devRef .tc Cert.ReferenceIdeal.main_arg5) (ix2 i j) : EReal) = launchContents m c (Proc.devRef .tc Cert.KernelIdeal.main_arg5) (ix2 i j) :=
  congrFun h.h5 _

/-- Argument 6 agrees at an index. -/
theorem Agree.a6 (h : Agree m m' c) (i : Fin 64) :
    (launchContents m' c (Proc.devRef .tc Cert.ReferenceIdeal.main_arg6) (ix1 i) : EReal) = launchContents m c (Proc.devRef .tc Cert.KernelIdeal.main_arg6) (ix1 i) :=
  congrFun h.h6 _

/-- Argument 7 agrees at an index. -/
theorem Agree.a7 (h : Agree m m' c) (i : Fin 64) (j : Fin 64) :
    (launchContents m' c (Proc.devRef .tc Cert.ReferenceIdeal.main_arg7) (ix2 i j) : EReal) = launchContents m c (Proc.devRef .tc Cert.KernelIdeal.main_arg7) (ix2 i j) :=
  congrFun h.h7 _

/-- Argument 8 agrees at an index. -/
theorem Agree.a8 (h : Agree m m' c) (i : Fin 64) :
    (launchContents m' c (Proc.devRef .tc Cert.ReferenceIdeal.main_arg8) (ix1 i) : EReal) = launchContents m c (Proc.devRef .tc Cert.KernelIdeal.main_arg8) (ix1 i) :=
  congrFun h.h8 _

/-- Argument 9 agrees at an index. -/
theorem Agree.a9 (h : Agree m m' c) (i : Fin 244) (j : Fin 64) :
    (launchContents m' c (Proc.devRef .tc Cert.ReferenceIdeal.main_arg9) (ix2 i j) : EReal) = launchContents m c (Proc.devRef .tc Cert.KernelIdeal.main_arg9) (ix2 i j) :=
  congrFun h.h9 _

/-- Argument 10 agrees at an index. -/
theorem Agree.a10 (h : Agree m m' c) (i : Fin 64) :
    (launchContents m' c (Proc.devRef .tc Cert.ReferenceIdeal.main_arg10) (ix1 i) : EReal) = launchContents m c (Proc.devRef .tc Cert.KernelIdeal.main_arg10) (ix1 i) :=
  congrFun h.h10 _

/-- Argument 11 agrees at an index. -/
theorem Agree.a11 (h : Agree m m' c) (i : Fin 64) (j : Fin 3) :
    (launchContents m' c (Proc.devRef .tc Cert.ReferenceIdeal.main_arg11) (ix2 i j) : EReal) = launchContents m c (Proc.devRef .tc Cert.KernelIdeal.main_arg11) (ix2 i j) :=
  congrFun h.h11 _

/-- Argument 12 agrees at an index. -/
theorem Agree.a12 (h : Agree m m' c) (i : Fin 3) :
    (launchContents m' c (Proc.devRef .tc Cert.ReferenceIdeal.main_arg12) (ix1 i) : EReal) = launchContents m c (Proc.devRef .tc Cert.KernelIdeal.main_arg12) (ix1 i) :=
  congrFun h.h12 _

/-- Argument 13 agrees at an index. -/
theorem Agree.a13 (h : Agree m m' c) (i : Fin 64) (j : Fin 1) :
    (launchContents m' c (Proc.devRef .tc Cert.ReferenceIdeal.main_arg13) (ix2 i j) : EReal) = launchContents m c (Proc.devRef .tc Cert.KernelIdeal.main_arg13) (ix2 i j) :=
  congrFun h.h13 _

/-- Argument 14 agrees at an index. -/
theorem Agree.a14 (h : Agree m m' c) (i : Fin 1) :
    (launchContents m' c (Proc.devRef .tc Cert.ReferenceIdeal.main_arg14) (ix1 i) : EReal) = launchContents m c (Proc.devRef .tc Cert.KernelIdeal.main_arg14) (ix1 i) :=
  congrFun h.h14 _

/-- The sample points agree. -/
theorem Agree.pt (h : Agree m m' c) (r : Fin 4096) (p : Fin 64) : R.pt (launchContents m' c) r p = K.pt m c r p := by
  simp only [R.pt, K.pt, h.a0, h.a1, h.a2]

/-- The directions agree. -/
theorem Agree.dir (h : Agree m m' c) (r : Fin 4096) : R.dir (launchContents m' c) r = K.dir m c r := by
  simp only [R.dir, K.dir, h.a1]

/-- The frequencies agree. -/
theorem Agree.freq (h : Agree m m' c) : R.freq (launchContents m' c) = K.freq m c := by
  funext l
  exact h.a4 l

/-- The hidden layers agree. -/
theorem Agree.hidden (h : Agree m m' c) (r : Fin 4096) (p : Fin 64) : R.hidden (launchContents m' c) r p = K.hidden m c r p := by
  funext x
  simp only [R.hidden, K.hidden, h.pt, h.freq, h.a5, h.a6, h.a7, h.a8]

/-- The grid's bits agree. -/
theorem Agree.bit (h : Agree m m' c) (r : Fin 4096) (p : Fin 64) : R.bit (launchContents m' c) r p = K.bit m c r p := by
  unfold R.bit K.bit
  rw [h.a3]
  simp only [h.pt]

/-- The densities agree. -/
theorem Agree.density (h : Agree m m' c) (r : Fin 4096) (p : Fin 64) : R.density (launchContents m' c) r p = K.density m c r p := by
  simp only [R.density, K.density, h.hidden, h.a13, h.a14]

/-- The colours agree. -/
theorem Agree.colour (h : Agree m m' c) (r : Fin 4096) (p : Fin 64) (k : Fin 3) : R.colour (launchContents m' c) r p k = K.colour m c r p k := by
  simp only [R.colour, K.colour, h.hidden, h.dir, h.freq, h.a9, h.a10, h.a11, h.a12]

/-- The first results agree at a point. -/
theorem Agree.first_at (h : Agree m m' c) (r : Fin 4096) (p : Fin 64) :
    Scalar.select (R.bit (launchContents m' c) r p) (R.density (launchContents m' c) r p) (0 : EReal)
      = Scalar.select (K.bit m c r p) (K.density m c r p) 0 := by
  rw [h.bit, h.density]

/-- The second results agree at a point. -/
theorem Agree.second_at (h : Agree m m' c) (r : Fin 4096) (p : Fin 64) (k : Fin 3) :
    Scalar.select (R.bit (launchContents m' c) r p) (R.colour (launchContents m' c) r p k) (0 : EReal)
      = Scalar.select (K.bit m c r p) (K.colour m c r p k) 0 := by
  rw [h.bit, h.colour]

/-- The first results are the same. -/
theorem Agree.first (h : Agree m m' c) :
    R.res117 (launchContents m' c) = K.Ve m c (Proc.devRef .tc Cert.KernelIdeal.main_v41) := by
  funext i
  have hi : i = ix3 (i 0) (i 1) 0 := by
    funext a
    match a with
    | ⟨0, _⟩ => rfl
    | ⟨1, _⟩ => rfl
    | ⟨2, _⟩ => exact Subsingleton.elim (α := Fin 1) _ _
  rw [hi]
  refine (R.res117_apply _ (i 0) (i 1)).trans ((h.first_at (i 0) (i 1)).trans (K.Ve41 m c (i 0) (i 1)).symm)

/-- The second results are the same. -/
theorem Agree.second (h : Agree m m' c) :
    R.res119 (launchContents m' c) = K.Ve m c (Proc.devRef .tc Cert.KernelIdeal.main_v40_1) := by
  funext i
  have hi : i = ix3 (i 0) (i 1) (i 2) := by
    funext a
    match a with
    | ⟨0, _⟩ => rfl
    | ⟨1, _⟩ => rfl
    | ⟨2, _⟩ => rfl
  rw [hi]
  refine (R.res119_apply _ (i 0) (i 1) (i 2)).trans ((h.second_at (i 0) (i 1) (i 2)).trans (K.Ve40 m c (i 0) (i 1) (i 2)).symm)

end

/-- From the same arguments the idealized kernel and the reference compute the same two results, and both leave their arguments as they were. -/
theorem algebraic : Cert.algebraic_KernelIdeal_ReferenceIdeal (hKernelIdeal := Cert.KernelIdeal.Gen.facts) (hReferenceIdeal := Cert.ReferenceIdeal.Gen.facts) := by
  intro m g m' g' _ hargs
  have hA : ∀ c, Agree m m' c := fun c => by
    obtain ⟨h0, h1, h2, h3, h4, h5, h6, h7, h8, h9, h10, h11, h12, h13, h14⟩ := hargs c
    exact ⟨h0, h1, h2, h3, h4, h5, h6, h7, h8, h9, h10, h11, h12, h13, h14⟩
  refine ⟨fun c => K.Ve m c (Proc.devRef .tc Cert.KernelIdeal.main_v41), fun c => K.Ve m c (Proc.devRef .tc Cert.KernelIdeal.main_v40_1), ?_, ?_⟩
  · refine (θ_run Cert.KernelIdeal.defs _ _).mono (fun r h c => ?_) (K.run_main (F := Ideal) m g)
    exact ⟨h.1 c Cert.KernelIdeal.main_v41 (by decide), h.1 c Cert.KernelIdeal.main_v40_1 (by decide), (K.args_kept m h).1 c⟩
  · refine (θ_run Cert.ReferenceIdeal.defs _ _).mono (fun r h c => ?_) (Cert.ReferenceIdeal.Value.run (F := Ideal) m' g')
    exact ⟨(h c).1.trans (hA c).first, (h c).2.1.trans (hA c).second, (h c).2.2⟩

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three programs' frames, the kernel's idealization, and the equality of the kernel's and the reference's results. -/
theorem claim : Cert.Claim := ⟨Cert.Kernel.Gen.facts, Cert.KernelIdeal.Gen.facts, Cert.ReferenceIdeal.Gen.facts,
  frame_kernel, frame_ideal, frame_reference, preserves, algebraic⟩

end Cert.Proof

end
